-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11))
      ∧ r.2.sem = fun _ => 0)

def preserves_Kernel_KernelIdeal : Prop :=
  IdealRules.named_const.Statement Cert.KernelIdeal.κ "neg_inf" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v36) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
-- ==== Pre_finite.lean ====
abbrev S2x8192x8x64 : Shape := ⟨4, ![2, 8192, 8, 64]⟩
abbrev S2x8192x2x64 : Shape := ⟨4, ![2, 8192, 2, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x2x64 : S_.BroadcastsInDim S2x8192x2x64 (![] : Fin 0 → Fin S2x8192x2x64.rank)
  reducesTo_S2x8192x2x64_S_d0_1_2_3 : S2x8192x2x64.ReducesTo [0, 1, 2, 3] S_

variable [Facts]

def fn {F : FTy → Type} [FloatOps F] (main_arg0 : FVec F S2x8192x8x64 .f32) (main_arg1 : FVec F S2x8192x2x64 .f32) (main_arg2 : FVec F S2x8192x2x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x2x64 .f32 := Host.absf main_arg1
  let main_cst_0 : FVec F S_ .f32 := constant S_ .f32 0x7F800000#32
  let main_v5 : FVec F S2x8192x2x64 .f32 := broadcastInDim S2x8192x2x64 ![] bcast_S_S2x8192x2x64 main_cst_0
  let main_v6 : IVec S2x8192x2x64 1 := cmpf .olt main_v4 main_v5
  let main_c_1 : IVec S_ 1 := constantI S_ 1 1#1
  let main_v7 : IVec S_ 1 := (fun x v => Host.reduce IntOp.andi x v reducesTo_S2x8192x2x64_S_d0_1_2_3 h_S_) main_v6 main_c_1
  let main_v8 : IVec S_ 1 := andi main_v3 main_v7
  main_v8
-- ==== Kernel.lean ====
abbrev S2x8192x8x64 : Shape := ⟨4, ![2, 8192, 8, 64]⟩
abbrev S2x8192x2x64 : Shape := ⟨4, ![2, 8192, 2, 64]⟩
abbrev S_ : Shape := ⟨0, ![]⟩
abbrev S16384x512 : Shape := ⟨2, ![16384, 512]⟩
abbrev S512x16384 : Shape := ⟨2, ![512, 16384]⟩
abbrev S16384x128 : Shape := ⟨2, ![16384, 128]⟩
abbrev S16384x64 : Shape := ⟨2, ![16384, 64]⟩
abbrev S64 : Shape := ⟨1, ![64]⟩
abbrev S1x64 : Shape := ⟨2, ![1, 64]⟩
abbrev S16384x1 : Shape := ⟨2, ![16384, 1]⟩
abbrev S16384x256 : Shape := ⟨2, ![16384, 256]⟩
abbrev S256x16384 : Shape := ⟨2, ![256, 16384]⟩
abbrev S256x8192 : Shape := ⟨2, ![256, 8192]⟩
abbrev S8192x256 : Shape := ⟨2, ![8192, 256]⟩
abbrev S128x8192 : Shape := ⟨2, ![128, 8192]⟩
abbrev S2x4x8x256 : Shape := ⟨4, ![2, 4, 8, 256]⟩
abbrev S2x4x128x256 : Shape := ⟨4, ![2, 4, 128, 256]⟩
abbrev S4x512x256 : Shape := ⟨3, ![4, 512, 256]⟩
abbrev S4x8x256 : Shape := ⟨3, ![4, 8, 256]⟩
abbrev S128x256 : Shape := ⟨2, ![128, 256]⟩
abbrev S512x128 : Shape := ⟨2, ![512, 128]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩
abbrev S8x256 : Shape := ⟨2, ![8, 256]⟩
abbrev S1x8x256 : Shape := ⟨3, ![1, 8, 256]⟩
abbrev S1x4x8x256 : Shape := ⟨4, ![1, 4, 8, 256]⟩
abbrev S72x512 : Shape := ⟨2, ![72, 512]⟩
abbrev S1x1x8x256 : Shape := ⟨4, ![1, 1, 8, 256]⟩
abbrev S1x1x72x256 : Shape := ⟨4, ![1, 1, 72, 256]⟩
abbrev S72x256 : Shape := ⟨2, ![72, 256]⟩
abbrev S256x128 : Shape := ⟨2, ![256, 128]⟩
abbrev S1x1x128x256 : Shape := ⟨4, ![1, 1, 128, 256]⟩

abbrev nBuf : Space → Nat
  | .hbm => 43
  | .vmem => 14
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S512x16384, .f32⟩
  | .hbm, ⟨13, _⟩ => ⟨S512x16384, .bf16⟩
  | .hbm, ⟨14, _⟩ => ⟨S16384x128, .f32⟩
  | .hbm, ⟨15, _⟩ => ⟨S16384x128, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x512, .f32⟩
  | .hbm, ⟨21, _⟩ => ⟨S16384x512, .bf16⟩
  | .hbm, ⟨22, _⟩ => ⟨S64, .i32⟩
  | .hbm, ⟨23, _⟩ => ⟨S1x64, .i32⟩
  | .hbm, ⟨24, _⟩ => ⟨S_, .i32⟩
  | .hbm, ⟨25, _⟩ => ⟨S1x64, .i32⟩
  | .hbm, ⟨26, _⟩ => ⟨S1x64, .i1⟩
  | .hbm, ⟨27, _⟩ => ⟨S_, .f32⟩
  | .hbm, ⟨28, _⟩ => ⟨S_, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S16384x1, .f32⟩
  | .hbm, ⟨34, _⟩ => ⟨S1x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x256, .f32⟩
  | .hbm, ⟨41, _⟩ => ⟨S256x16384, .f32⟩
  | .hbm, ⟨42, _⟩ => ⟨S16384x512, .bf16⟩
  | .local _ .vmem, ⟨0, _⟩ => ⟨S256x8192, .bf16⟩
  | .local _ .vmem, ⟨1, _⟩ => ⟨S256x8192, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .f32⟩
  | .local _ .vmem, ⟨5, _⟩ => ⟨S128x8192, .f32⟩
  | .local _ .vmem, ⟨6, _⟩ => ⟨S8192x256, .bf16⟩
  | .local _ .vmem, ⟨7, _⟩ => ⟨S8192x256, .bf16⟩
  | .local _ .vmem, ⟨8, _⟩ => ⟨S2x4x8x256, .f32⟩
  | .local _ .vmem, ⟨9, _⟩ => ⟨S2x4x128x256, .f32⟩
  | .local _ .vmem, ⟨10, _⟩ => ⟨S4x512x256, .f32⟩
  | .local _ .vmem, ⟨11, _⟩ => ⟨S4x512x256, .f32⟩
  | .local _ .vmem, ⟨12, _⟩ => ⟨S4x8x256, .f32⟩
  | .local _ .vmem, ⟨13, _⟩ => ⟨S4x8x256, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c32_i32 : BitVec 32 := 32#32
  let v64 : BitVec 32 := Scalar.addi c0_i32 c32_i32
  let c1_i32 : BitVec 32 := 1#32
  ⟨c0_i32, v64, c1_i32⟩
def k0_off1 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v121 : Index := Scalar.indexCast v119
  let c0_80 : Index := 0#32
  let c0_81 : Index := 0#32
  let c0_82 : Index := 0#32
  ![v121.toNat, 0, 0, 0]
@[reducible] def k0_t2_loop (k0_t1 : Fin k0_t1_loop.trips) : Scf.Loop 32 :=
  let c0_i32_86 : BitVec 32 := 0#32
  let c0_i32 : BitVec 32 := 0#32
  let c1_i32 : BitVec 32 := 1#32
  let arg12 : BitVec 32 := Scf.iv c0_i32 c1_i32 k0_t1
  let c0_i32_83 : BitVec 32 := 0#32
  let v125 : BitVec 32 := Scalar.minsi arg12 c0_i32_83
  let c1_i32_84 : BitVec 32 := 1#32
  let v126 : BitVec 32 := Scalar.addi v125 c1_i32_84
  let v127 : BitVec 32 := Scalar.subi v126 c0_i32_86
  let c1_i32_87 : BitVec 32 := 1#32
  let v129 : BitVec 32 := Scalar.divsi v127 c1_i32_87
  let v130 : BitVec 32 := Scalar.muli v129 c1_i32_87
  let v131 : BitVec 32 := Scalar.addi c0_i32_86 v130
  let c1_i32_88 : BitVec 32 := 1#32
  ⟨c0_i32_86, v131, c1_i32_88⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v137 : BitVec 32 := Scalar.muli arg12 c256_i32
  v137
def k0_off2 (k0_t1 : Fin k0_t1_loop.trips) : Fin 2 → Nat :=
  let c0_95 : Index := 0#32
  let c0_i32 : BitVec 32 := 0#32
  let c1_i32 : BitVec 32 := 1#32
  let arg12 : BitVec 32 := Scf.iv c0_i32 c1_i32 k0_t1
  let c256_i32 : BitVec 32 := 256#32
  let v137 : BitVec 32 := Scalar.muli arg12 c256_i32
  let v138 : BitVec 32 := v137
  let v139 : Index := Scalar.indexCast v138
  ![0, v139.toNat]
def k0_off3 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v157 : Index := Scalar.indexCast v119
  let c0_107 : Index := 0#32
  let c0_108 : Index := 0#32
  let c0_109 : Index := 0#32
  ![v157.toNat, 0, 0, 0]
def k0_off4 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v171 : Index := Scalar.indexCast v119
  let c0_116 : Index := 0#32
  let c0_117 : Index := 0#32
  let c0_118 : Index := 0#32
  ![v171.toNat, 0, 0, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_126 : BitVec 32 := 256#32
  let v187 : BitVec 32 := Scalar.muli arg12 c256_i32_126
  v187
def k0_off5 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v207 : Index := Scalar.indexCast v119
  let c1_140 : Index := 1#32
  let c0_141 : Index := 0#32
  let c0_142 : Index := 0#32
  ![v207.toNat, 1, 0, 0]
def k0_off6 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v221 : Index := Scalar.indexCast v119
  let c1_149 : Index := 1#32
  let c0_150 : Index := 0#32
  let c0_151 : Index := 0#32
  ![v221.toNat, 1, 0, 0]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_159 : BitVec 32 := 256#32
  let v237 : BitVec 32 := Scalar.muli arg12 c256_i32_159
  v237
def k0_off7 (k0_t1 : Fin k0_t1_loop.trips) : Fin 2 → Nat :=
  let c128_160 : Index := 128#32
  let c0_i32 : BitVec 32 := 0#32
  let c1_i32 : BitVec 32 := 1#32
  let arg12 : BitVec 32 := Scf.iv c0_i32 c1_i32 k0_t1
  let c256_i32_159 : BitVec 32 := 256#32
  let v237 : BitVec 32 := Scalar.muli arg12 c256_i32_159
  let v238 : BitVec 32 := v237
  let v239 : Index := Scalar.indexCast v238
  ![128, v239.toNat]
def k0_off8 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v257 : Index := Scalar.indexCast v119
  let c2_173 : Index := 2#32
  let c0_174 : Index := 0#32
  let c0_175 : Index := 0#32
  ![v257.toNat, 2, 0, 0]
def k0_off9 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v271 : Index := Scalar.indexCast v119
  let c2_182 : Index := 2#32
  let c0_183 : Index := 0#32
  let c0_184 : Index := 0#32
  ![v271.toNat, 2, 0, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_192 : BitVec 32 := 256#32
  let v287 : BitVec 32 := Scalar.muli arg12 c256_i32_192
  v287
def k0_off10 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v307 : Index := Scalar.indexCast v119
  let c3_206 : Index := 3#32
  let c0_207 : Index := 0#32
  let c0_208 : Index := 0#32
  ![v307.toNat, 3, 0, 0]
def k0_off11 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v321 : Index := Scalar.indexCast v119
  let c3_215 : Index := 3#32
  let c0_216 : Index := 0#32
  let c0_217 : Index := 0#32
  ![v321.toNat, 3, 0, 0]
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_225 : BitVec 32 := 256#32
  let v337 : BitVec 32 := Scalar.muli arg12 c256_i32_225
  v337
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_257 : BitVec 32 := 256#32
  let v387 : BitVec 32 := Scalar.muli arg12 c256_i32_257
  v387
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_290 : BitVec 32 := 256#32
  let v437 : BitVec 32 := Scalar.muli arg12 c256_i32_290
  v437
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_323 : BitVec 32 := 256#32
  let v487 : BitVec 32 := Scalar.muli arg12 c256_i32_323
  v487
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_356 : BitVec 32 := 256#32
  let v537 : BitVec 32 := Scalar.muli arg12 c256_i32_356
  v537
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_388 : BitVec 32 := 256#32
  let v587 : BitVec 32 := Scalar.muli arg12 c256_i32_388
  v587
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_421 : BitVec 32 := 256#32
  let v637 : BitVec 32 := Scalar.muli arg12 c256_i32_421
  v637
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_454 : BitVec 32 := 256#32
  let v687 : BitVec 32 := Scalar.muli arg12 c256_i32_454
  v687
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_487 : BitVec 32 := 256#32
  let v737 : BitVec 32 := Scalar.muli arg12 c256_i32_487
  v737
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_519 : BitVec 32 := 256#32
  let v787 : BitVec 32 := Scalar.muli arg12 c256_i32_519
  v787
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_552 : BitVec 32 := 256#32
  let v837 : BitVec 32 := Scalar.muli arg12 c256_i32_552
  v837
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_585 : BitVec 32 := 256#32
  let v887 : BitVec 32 := Scalar.muli arg12 c256_i32_585
  v887
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_618 : BitVec 32 := 256#32
  let v937 : BitVec 32 := Scalar.muli arg12 c256_i32_618
  v937
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_650 : BitVec 32 := 256#32
  let v987 : BitVec 32 := Scalar.muli arg12 c256_i32_650
  v987
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_683 : BitVec 32 := 256#32
  let v1037 : BitVec 32 := Scalar.muli arg12 c256_i32_683
  v1037
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_716 : BitVec 32 := 256#32
  let v1087 : BitVec 32 := Scalar.muli arg12 c256_i32_716
  v1087
def k0_mult21 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_749 : BitVec 32 := 256#32
  let v1137 : BitVec 32 := Scalar.muli arg12 c256_i32_749
  v1137
def k0_mult22 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_781 : BitVec 32 := 256#32
  let v1187 : BitVec 32 := Scalar.muli arg12 c256_i32_781
  v1187
def k0_mult23 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_814 : BitVec 32 := 256#32
  let v1237 : BitVec 32 := Scalar.muli arg12 c256_i32_814
  v1237
def k0_mult24 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_847 : BitVec 32 := 256#32
  let v1287 : BitVec 32 := Scalar.muli arg12 c256_i32_847
  v1287
def k0_mult25 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_880 : BitVec 32 := 256#32
  let v1337 : BitVec 32 := Scalar.muli arg12 c256_i32_880
  v1337
def k0_mult26 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_912 : BitVec 32 := 256#32
  let v1387 : BitVec 32 := Scalar.muli arg12 c256_i32_912
  v1387
def k0_mult27 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_945 : BitVec 32 := 256#32
  let v1437 : BitVec 32 := Scalar.muli arg12 c256_i32_945
  v1437
def k0_mult28 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_978 : BitVec 32 := 256#32
  let v1487 : BitVec 32 := Scalar.muli arg12 c256_i32_978
  v1487
def k0_mult29 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1011 : BitVec 32 := 256#32
  let v1537 : BitVec 32 := Scalar.muli arg12 c256_i32_1011
  v1537
def k0_mult30 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1043 : BitVec 32 := 256#32
  let v1587 : BitVec 32 := Scalar.muli arg12 c256_i32_1043
  v1587
def k0_mult31 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1076 : BitVec 32 := 256#32
  let v1637 : BitVec 32 := Scalar.muli arg12 c256_i32_1076
  v1637
def k0_mult32 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1109 : BitVec 32 := 256#32
  let v1687 : BitVec 32 := Scalar.muli arg12 c256_i32_1109
  v1687
def k0_mult33 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1142 : BitVec 32 := 256#32
  let v1737 : BitVec 32 := Scalar.muli arg12 c256_i32_1142
  v1737
def k0_mult34 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1174 : BitVec 32 := 256#32
  let v1787 : BitVec 32 := Scalar.muli arg12 c256_i32_1174
  v1787
def k0_mult35 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1207 : BitVec 32 := 256#32
  let v1837 : BitVec 32 := Scalar.muli arg12 c256_i32_1207
  v1837
def k0_mult36 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1240 : BitVec 32 := 256#32
  let v1887 : BitVec 32 := Scalar.muli arg12 c256_i32_1240
  v1887
def k0_mult37 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1273 : BitVec 32 := 256#32
  let v1937 : BitVec 32 := Scalar.muli arg12 c256_i32_1273
  v1937
def k0_mult38 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1305 : BitVec 32 := 256#32
  let v1987 : BitVec 32 := Scalar.muli arg12 c256_i32_1305
  v1987
def k0_mult39 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1338 : BitVec 32 := 256#32
  let v2037 : BitVec 32 := Scalar.muli arg12 c256_i32_1338
  v2037
def k0_mult40 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1371 : BitVec 32 := 256#32
  let v2087 : BitVec 32 := Scalar.muli arg12 c256_i32_1371
  v2087
def k0_mult41 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1404 : BitVec 32 := 256#32
  let v2137 : BitVec 32 := Scalar.muli arg12 c256_i32_1404
  v2137
def k0_mult42 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1436 : BitVec 32 := 256#32
  let v2187 : BitVec 32 := Scalar.muli arg12 c256_i32_1436
  v2187
def k0_mult43 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1469 : BitVec 32 := 256#32
  let v2237 : BitVec 32 := Scalar.muli arg12 c256_i32_1469
  v2237
def k0_mult44 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1502 : BitVec 32 := 256#32
  let v2287 : BitVec 32 := Scalar.muli arg12 c256_i32_1502
  v2287
def k0_mult45 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1535 : BitVec 32 := 256#32
  let v2337 : BitVec 32 := Scalar.muli arg12 c256_i32_1535
  v2337
def k0_mult46 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1567 : BitVec 32 := 256#32
  let v2387 : BitVec 32 := Scalar.muli arg12 c256_i32_1567
  v2387
def k0_mult47 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1600 : BitVec 32 := 256#32
  let v2437 : BitVec 32 := Scalar.muli arg12 c256_i32_1600
  v2437
def k0_mult48 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1633 : BitVec 32 := 256#32
  let v2487 : BitVec 32 := Scalar.muli arg12 c256_i32_1633
  v2487
@[reducible] def k0_t3_loop (k0_t1 : Fin k0_t1_loop.trips) : Scf.Loop 32 :=
  let c0_i32_86 : BitVec 32 := 0#32
  let c0_i32 : BitVec 32 := 0#32
  let c1_i32 : BitVec 32 := 1#32
  let arg12 : BitVec 32 := Scf.iv c0_i32 c1_i32 k0_t1
  let c0_i32_83 : BitVec 32 := 0#32
  let v125 : BitVec 32 := Scalar.minsi arg12 c0_i32_83
  let c1_i32_84 : BitVec 32 := 1#32
  let v126 : BitVec 32 := Scalar.addi v125 c1_i32_84
  let v127 : BitVec 32 := Scalar.subi v126 c0_i32_86
  let c1_i32_87 : BitVec 32 := 1#32
  let v129 : BitVec 32 := Scalar.divsi v127 c1_i32_87
  let v130 : BitVec 32 := Scalar.muli v129 c1_i32_87
  let v131 : BitVec 32 := Scalar.addi c0_i32_86 v130
  let v128 : BitVec 32 := Scalar.addi c0_i32_86 v127
  let c1_i32_89 : BitVec 32 := 1#32
  ⟨v131, v128, c1_i32_89⟩
def k0_mult49 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v137 : BitVec 32 := Scalar.muli arg12 c256_i32
  v137
def k0_off12 (k0_t1 : Fin k0_t1_loop.trips) : Fin 2 → Nat :=
  let c0_95 : Index := 0#32
  let c0_i32 : BitVec 32 := 0#32
  let c1_i32 : BitVec 32 := 1#32
  let arg12 : BitVec 32 := Scf.iv c0_i32 c1_i32 k0_t1
  let c256_i32 : BitVec 32 := 256#32
  let v137 : BitVec 32 := Scalar.muli arg12 c256_i32
  let v138 : BitVec 32 := v137
  let v139 : Index := Scalar.indexCast v138
  ![0, v139.toNat]
def k0_off13 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v157 : Index := Scalar.indexCast v119
  let c0_107 : Index := 0#32
  let c0_108 : Index := 0#32
  let c0_109 : Index := 0#32
  ![v157.toNat, 0, 0, 0]
def k0_off14 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v171 : Index := Scalar.indexCast v119
  let c0_116 : Index := 0#32
  let c0_117 : Index := 0#32
  let c0_118 : Index := 0#32
  ![v171.toNat, 0, 0, 0]
def k0_mult50 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_126 : BitVec 32 := 256#32
  let v187 : BitVec 32 := Scalar.muli arg12 c256_i32_126
  v187
def k0_off15 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v207 : Index := Scalar.indexCast v119
  let c1_140 : Index := 1#32
  let c0_141 : Index := 0#32
  let c0_142 : Index := 0#32
  ![v207.toNat, 1, 0, 0]
def k0_off16 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v221 : Index := Scalar.indexCast v119
  let c1_149 : Index := 1#32
  let c0_150 : Index := 0#32
  let c0_151 : Index := 0#32
  ![v221.toNat, 1, 0, 0]
def k0_mult51 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_159 : BitVec 32 := 256#32
  let v237 : BitVec 32 := Scalar.muli arg12 c256_i32_159
  v237
def k0_off17 (k0_t1 : Fin k0_t1_loop.trips) : Fin 2 → Nat :=
  let c128_160 : Index := 128#32
  let c0_i32 : BitVec 32 := 0#32
  let c1_i32 : BitVec 32 := 1#32
  let arg12 : BitVec 32 := Scf.iv c0_i32 c1_i32 k0_t1
  let c256_i32_159 : BitVec 32 := 256#32
  let v237 : BitVec 32 := Scalar.muli arg12 c256_i32_159
  let v238 : BitVec 32 := v237
  let v239 : Index := Scalar.indexCast v238
  ![128, v239.toNat]
def k0_off18 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v257 : Index := Scalar.indexCast v119
  let c2_173 : Index := 2#32
  let c0_174 : Index := 0#32
  let c0_175 : Index := 0#32
  ![v257.toNat, 2, 0, 0]
def k0_off19 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v271 : Index := Scalar.indexCast v119
  let c2_182 : Index := 2#32
  let c0_183 : Index := 0#32
  let c0_184 : Index := 0#32
  ![v271.toNat, 2, 0, 0]
def k0_mult52 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_192 : BitVec 32 := 256#32
  let v287 : BitVec 32 := Scalar.muli arg12 c256_i32_192
  v287
def k0_off20 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v307 : Index := Scalar.indexCast v119
  let c3_206 : Index := 3#32
  let c0_207 : Index := 0#32
  let c0_208 : Index := 0#32
  ![v307.toNat, 3, 0, 0]
def k0_off21 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v321 : Index := Scalar.indexCast v119
  let c3_215 : Index := 3#32
  let c0_216 : Index := 0#32
  let c0_217 : Index := 0#32
  ![v321.toNat, 3, 0, 0]
def k0_mult53 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_225 : BitVec 32 := 256#32
  let v337 : BitVec 32 := Scalar.muli arg12 c256_i32_225
  v337
def k0_mult54 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_257 : BitVec 32 := 256#32
  let v387 : BitVec 32 := Scalar.muli arg12 c256_i32_257
  v387
def k0_mult55 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_290 : BitVec 32 := 256#32
  let v437 : BitVec 32 := Scalar.muli arg12 c256_i32_290
  v437
def k0_mult56 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_323 : BitVec 32 := 256#32
  let v487 : BitVec 32 := Scalar.muli arg12 c256_i32_323
  v487
def k0_mult57 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_356 : BitVec 32 := 256#32
  let v537 : BitVec 32 := Scalar.muli arg12 c256_i32_356
  v537
def k0_mult58 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_388 : BitVec 32 := 256#32
  let v587 : BitVec 32 := Scalar.muli arg12 c256_i32_388
  v587
def k0_mult59 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_421 : BitVec 32 := 256#32
  let v637 : BitVec 32 := Scalar.muli arg12 c256_i32_421
  v637
def k0_mult60 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_454 : BitVec 32 := 256#32
  let v687 : BitVec 32 := Scalar.muli arg12 c256_i32_454
  v687
def k0_mult61 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_487 : BitVec 32 := 256#32
  let v737 : BitVec 32 := Scalar.muli arg12 c256_i32_487
  v737
def k0_mult62 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_519 : BitVec 32 := 256#32
  let v787 : BitVec 32 := Scalar.muli arg12 c256_i32_519
  v787
def k0_mult63 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_552 : BitVec 32 := 256#32
  let v837 : BitVec 32 := Scalar.muli arg12 c256_i32_552
  v837
def k0_mult64 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_585 : BitVec 32 := 256#32
  let v887 : BitVec 32 := Scalar.muli arg12 c256_i32_585
  v887
def k0_mult65 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_618 : BitVec 32 := 256#32
  let v937 : BitVec 32 := Scalar.muli arg12 c256_i32_618
  v937
def k0_mult66 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_650 : BitVec 32 := 256#32
  let v987 : BitVec 32 := Scalar.muli arg12 c256_i32_650
  v987
def k0_mult67 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_683 : BitVec 32 := 256#32
  let v1037 : BitVec 32 := Scalar.muli arg12 c256_i32_683
  v1037
def k0_mult68 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_716 : BitVec 32 := 256#32
  let v1087 : BitVec 32 := Scalar.muli arg12 c256_i32_716
  v1087
def k0_mult69 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_749 : BitVec 32 := 256#32
  let v1137 : BitVec 32 := Scalar.muli arg12 c256_i32_749
  v1137
def k0_mult70 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_781 : BitVec 32 := 256#32
  let v1187 : BitVec 32 := Scalar.muli arg12 c256_i32_781
  v1187
def k0_mult71 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_814 : BitVec 32 := 256#32
  let v1237 : BitVec 32 := Scalar.muli arg12 c256_i32_814
  v1237
def k0_mult72 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_847 : BitVec 32 := 256#32
  let v1287 : BitVec 32 := Scalar.muli arg12 c256_i32_847
  v1287
def k0_mult73 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_880 : BitVec 32 := 256#32
  let v1337 : BitVec 32 := Scalar.muli arg12 c256_i32_880
  v1337
def k0_mult74 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_912 : BitVec 32 := 256#32
  let v1387 : BitVec 32 := Scalar.muli arg12 c256_i32_912
  v1387
def k0_mult75 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_945 : BitVec 32 := 256#32
  let v1437 : BitVec 32 := Scalar.muli arg12 c256_i32_945
  v1437
def k0_mult76 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_978 : BitVec 32 := 256#32
  let v1487 : BitVec 32 := Scalar.muli arg12 c256_i32_978
  v1487
def k0_mult77 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1011 : BitVec 32 := 256#32
  let v1537 : BitVec 32 := Scalar.muli arg12 c256_i32_1011
  v1537
def k0_mult78 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1043 : BitVec 32 := 256#32
  let v1587 : BitVec 32 := Scalar.muli arg12 c256_i32_1043
  v1587
def k0_mult79 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1076 : BitVec 32 := 256#32
  let v1637 : BitVec 32 := Scalar.muli arg12 c256_i32_1076
  v1637
def k0_mult80 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1109 : BitVec 32 := 256#32
  let v1687 : BitVec 32 := Scalar.muli arg12 c256_i32_1109
  v1687
def k0_mult81 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1142 : BitVec 32 := 256#32
  let v1737 : BitVec 32 := Scalar.muli arg12 c256_i32_1142
  v1737
def k0_mult82 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1174 : BitVec 32 := 256#32
  let v1787 : BitVec 32 := Scalar.muli arg12 c256_i32_1174
  v1787
def k0_mult83 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1207 : BitVec 32 := 256#32
  let v1837 : BitVec 32 := Scalar.muli arg12 c256_i32_1207
  v1837
def k0_mult84 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1240 : BitVec 32 := 256#32
  let v1887 : BitVec 32 := Scalar.muli arg12 c256_i32_1240
  v1887
def k0_mult85 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1273 : BitVec 32 := 256#32
  let v1937 : BitVec 32 := Scalar.muli arg12 c256_i32_1273
  v1937
def k0_mult86 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1305 : BitVec 32 := 256#32
  let v1987 : BitVec 32 := Scalar.muli arg12 c256_i32_1305
  v1987
def k0_mult87 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1338 : BitVec 32 := 256#32
  let v2037 : BitVec 32 := Scalar.muli arg12 c256_i32_1338
  v2037
def k0_mult88 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1371 : BitVec 32 := 256#32
  let v2087 : BitVec 32 := Scalar.muli arg12 c256_i32_1371
  v2087
def k0_mult89 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1404 : BitVec 32 := 256#32
  let v2137 : BitVec 32 := Scalar.muli arg12 c256_i32_1404
  v2137
def k0_mult90 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1436 : BitVec 32 := 256#32
  let v2187 : BitVec 32 := Scalar.muli arg12 c256_i32_1436
  v2187
def k0_mult91 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1469 : BitVec 32 := 256#32
  let v2237 : BitVec 32 := Scalar.muli arg12 c256_i32_1469
  v2237
def k0_mult92 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1502 : BitVec 32 := 256#32
  let v2287 : BitVec 32 := Scalar.muli arg12 c256_i32_1502
  v2287
def k0_mult93 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1535 : BitVec 32 := 256#32
  let v2337 : BitVec 32 := Scalar.muli arg12 c256_i32_1535
  v2337
def k0_mult94 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1567 : BitVec 32 := 256#32
  let v2387 : BitVec 32 := Scalar.muli arg12 c256_i32_1567
  v2387
def k0_mult95 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1600 : BitVec 32 := 256#32
  let v2437 : BitVec 32 := Scalar.muli arg12 c256_i32_1600
  v2437
def k0_mult96 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1633 : BitVec 32 := 256#32
  let v2487 : BitVec 32 := Scalar.muli arg12 c256_i32_1633
  v2487
@[reducible] def k0_t4_loop (k0_t1 : Fin k0_t1_loop.trips) : Scf.Loop 32 :=
  let c0_i32_91 : BitVec 32 := 0#32
  let c0_i32 : BitVec 32 := 0#32
  let c1_i32 : BitVec 32 := 1#32
  let arg12 : BitVec 32 := Scf.iv c0_i32 c1_i32 k0_t1
  let c0_i32_83 : BitVec 32 := 0#32
  let v125 : BitVec 32 := Scalar.minsi arg12 c0_i32_83
  let c1_i32_84 : BitVec 32 := 1#32
  let v126 : BitVec 32 := Scalar.addi v125 c1_i32_84
  let v132 : BitVec 32 := Scalar.subi v126 c0_i32_91
  let c1_i32_92 : BitVec 32 := 1#32
  let v134 : BitVec 32 := Scalar.divsi v132 c1_i32_92
  let v135 : BitVec 32 := Scalar.muli v134 c1_i32_92
  let v136 : BitVec 32 := Scalar.addi c0_i32_91 v135
  let c1_i32_93 : BitVec 32 := 1#32
  ⟨c0_i32_91, v136, c1_i32_93⟩
def k0_off22 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v141 : Index := Scalar.indexCast v137
  let c0_98 : Index := 0#32
  let c0_99 : Index := 0#32
  let c0_100 : Index := 0#32
  ![v141.toNat, 0, 0, 0]
def k0_off23 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v150 : Index := Scalar.indexCast v137
  let c1_102 : Index := 1#32
  let c0_103 : Index := 0#32
  let c0_104 : Index := 0#32
  ![v150.toNat, 1, 0, 0]
def k0_mult97 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32 : BitVec 32 := 256#32
  let v164 : BitVec 32 := Scalar.muli v139 c256_i32
  v164
def k0_off24 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32 : BitVec 32 := 256#32
  let v164 : BitVec 32 := Scalar.muli v139 c256_i32
  let v165 : BitVec 32 := v164
  let v166 : Index := Scalar.indexCast v165
  let c0_108 : Index := 0#32
  ![v166.toNat, 0]
def k0_off25 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v168 : Index := Scalar.indexCast v137
  let c2_109 : Index := 2#32
  let c0_110 : Index := 0#32
  let c0_111 : Index := 0#32
  ![v168.toNat, 2, 0, 0]
def k0_off26 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v177 : Index := Scalar.indexCast v137
  let c3_113 : Index := 3#32
  let c0_114 : Index := 0#32
  let c0_115 : Index := 0#32
  ![v177.toNat, 3, 0, 0]
def k0_mult98 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32_119 : BitVec 32 := 256#32
  let v191 : BitVec 32 := Scalar.muli v139 c256_i32_119
  v191
def k0_off27 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32_119 : BitVec 32 := 256#32
  let v191 : BitVec 32 := Scalar.muli v139 c256_i32_119
  let v192 : BitVec 32 := v191
  let v193 : Index := Scalar.indexCast v192
  let c128_120 : Index := 128#32
  ![v193.toNat, 128]
def k0_mult99 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_121 : BitVec 32 := 256#32
  let v195 : BitVec 32 := Scalar.muli arg12 c256_i32_121
  v195
def k0_off28 (k0_t1 : Fin k0_t1_loop.trips) : Fin 2 → Nat :=
  let c0_122 : Index := 0#32
  let c0_i32 : BitVec 32 := 0#32
  let c1_i32 : BitVec 32 := 1#32
  let arg12 : BitVec 32 := Scf.iv c0_i32 c1_i32 k0_t1
  let c256_i32_121 : BitVec 32 := 256#32
  let v195 : BitVec 32 := Scalar.muli arg12 c256_i32_121
  let v196 : BitVec 32 := v195
  let v197 : Index := Scalar.indexCast v196
  ![0, v197.toNat]
def k0_off29 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v215 : Index := Scalar.indexCast v119
  let c0_133 : Index := 0#32
  let c0_134 : Index := 0#32
  let c0_135 : Index := 0#32
  ![v215.toNat, 0, 0, 0]
def k0_off30 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v229 : Index := Scalar.indexCast v119
  let c0_142 : Index := 0#32
  let c0_143 : Index := 0#32
  let c0_144 : Index := 0#32
  ![v229.toNat, 0, 0, 0]
def k0_mult100 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_152 : BitVec 32 := 256#32
  let v245 : BitVec 32 := Scalar.muli arg12 c256_i32_152
  v245
def k0_off31 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v265 : Index := Scalar.indexCast v119
  let c1_166 : Index := 1#32
  let c0_167 : Index := 0#32
  let c0_168 : Index := 0#32
  ![v265.toNat, 1, 0, 0]
def k0_off32 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v279 : Index := Scalar.indexCast v119
  let c1_175 : Index := 1#32
  let c0_176 : Index := 0#32
  let c0_177 : Index := 0#32
  ![v279.toNat, 1, 0, 0]
def k0_mult101 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_185 : BitVec 32 := 256#32
  let v295 : BitVec 32 := Scalar.muli arg12 c256_i32_185
  v295
def k0_off33 (k0_t1 : Fin k0_t1_loop.trips) : Fin 2 → Nat :=
  let c128_186 : Index := 128#32
  let c0_i32 : BitVec 32 := 0#32
  let c1_i32 : BitVec 32 := 1#32
  let arg12 : BitVec 32 := Scf.iv c0_i32 c1_i32 k0_t1
  let c256_i32_185 : BitVec 32 := 256#32
  let v295 : BitVec 32 := Scalar.muli arg12 c256_i32_185
  let v296 : BitVec 32 := v295
  let v297 : Index := Scalar.indexCast v296
  ![128, v297.toNat]
def k0_off34 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v315 : Index := Scalar.indexCast v119
  let c2_199 : Index := 2#32
  let c0_200 : Index := 0#32
  let c0_201 : Index := 0#32
  ![v315.toNat, 2, 0, 0]
def k0_off35 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v329 : Index := Scalar.indexCast v119
  let c2_208 : Index := 2#32
  let c0_209 : Index := 0#32
  let c0_210 : Index := 0#32
  ![v329.toNat, 2, 0, 0]
def k0_mult102 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_218 : BitVec 32 := 256#32
  let v345 : BitVec 32 := Scalar.muli arg12 c256_i32_218
  v345
def k0_off36 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v365 : Index := Scalar.indexCast v119
  let c3_232 : Index := 3#32
  let c0_233 : Index := 0#32
  let c0_234 : Index := 0#32
  ![v365.toNat, 3, 0, 0]
def k0_off37 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v379 : Index := Scalar.indexCast v119
  let c3_241 : Index := 3#32
  let c0_242 : Index := 0#32
  let c0_243 : Index := 0#32
  ![v379.toNat, 3, 0, 0]
def k0_mult103 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_251 : BitVec 32 := 256#32
  let v395 : BitVec 32 := Scalar.muli arg12 c256_i32_251
  v395
def k0_mult104 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_283 : BitVec 32 := 256#32
  let v445 : BitVec 32 := Scalar.muli arg12 c256_i32_283
  v445
def k0_mult105 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_316 : BitVec 32 := 256#32
  let v495 : BitVec 32 := Scalar.muli arg12 c256_i32_316
  v495
def k0_mult106 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_349 : BitVec 32 := 256#32
  let v545 : BitVec 32 := Scalar.muli arg12 c256_i32_349
  v545
def k0_mult107 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_382 : BitVec 32 := 256#32
  let v595 : BitVec 32 := Scalar.muli arg12 c256_i32_382
  v595
def k0_mult108 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_414 : BitVec 32 := 256#32
  let v645 : BitVec 32 := Scalar.muli arg12 c256_i32_414
  v645
def k0_mult109 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_447 : BitVec 32 := 256#32
  let v695 : BitVec 32 := Scalar.muli arg12 c256_i32_447
  v695
def k0_mult110 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_480 : BitVec 32 := 256#32
  let v745 : BitVec 32 := Scalar.muli arg12 c256_i32_480
  v745
def k0_mult111 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_514 : BitVec 32 := 256#32
  let v797 : BitVec 32 := Scalar.muli v796 c256_i32_514
  v797
def k0_off38 (k0_t1 : Fin k0_t1_loop.trips) : Fin 2 → Nat :=
  let c0_515 : Index := 0#32
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_514 : BitVec 32 := 256#32
  let v797 : BitVec 32 := Scalar.muli v796 c256_i32_514
  let v798 : BitVec 32 := v797
  let v799 : Index := Scalar.indexCast v798
  ![0, v799.toNat]
def k0_mult112 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_547 : BitVec 32 := 256#32
  let v847 : BitVec 32 := Scalar.muli v796 c256_i32_547
  v847
def k0_mult113 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_580 : BitVec 32 := 256#32
  let v897 : BitVec 32 := Scalar.muli v796 c256_i32_580
  v897
def k0_off39 (k0_t1 : Fin k0_t1_loop.trips) : Fin 2 → Nat :=
  let c128_581 : Index := 128#32
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_580 : BitVec 32 := 256#32
  let v897 : BitVec 32 := Scalar.muli v796 c256_i32_580
  let v898 : BitVec 32 := v897
  let v899 : Index := Scalar.indexCast v898
  ![128, v899.toNat]
def k0_mult114 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_613 : BitVec 32 := 256#32
  let v947 : BitVec 32 := Scalar.muli v796 c256_i32_613
  v947
@[reducible] def k0_t5_loop (k0_t1 : Fin k0_t1_loop.trips) : Scf.Loop 32 :=
  let c0_i32_91 : BitVec 32 := 0#32
  let c0_i32 : BitVec 32 := 0#32
  let c1_i32 : BitVec 32 := 1#32
  let arg12 : BitVec 32 := Scf.iv c0_i32 c1_i32 k0_t1
  let c0_i32_83 : BitVec 32 := 0#32
  let v125 : BitVec 32 := Scalar.minsi arg12 c0_i32_83
  let c1_i32_84 : BitVec 32 := 1#32
  let v126 : BitVec 32 := Scalar.addi v125 c1_i32_84
  let v132 : BitVec 32 := Scalar.subi v126 c0_i32_91
  let c1_i32_92 : BitVec 32 := 1#32
  let v134 : BitVec 32 := Scalar.divsi v132 c1_i32_92
  let v135 : BitVec 32 := Scalar.muli v134 c1_i32_92
  let v136 : BitVec 32 := Scalar.addi c0_i32_91 v135
  let v133 : BitVec 32 := Scalar.addi c0_i32_91 v132
  let c1_i32_94 : BitVec 32 := 1#32
  ⟨v136, v133, c1_i32_94⟩
def k0_off40 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v141 : Index := Scalar.indexCast v137
  let c0_98 : Index := 0#32
  let c0_99 : Index := 0#32
  let c0_100 : Index := 0#32
  ![v141.toNat, 0, 0, 0]
def k0_off41 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v150 : Index := Scalar.indexCast v137
  let c1_102 : Index := 1#32
  let c0_103 : Index := 0#32
  let c0_104 : Index := 0#32
  ![v150.toNat, 1, 0, 0]
def k0_mult115 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32 : BitVec 32 := 256#32
  let v164 : BitVec 32 := Scalar.muli v139 c256_i32
  v164
def k0_off42 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32 : BitVec 32 := 256#32
  let v164 : BitVec 32 := Scalar.muli v139 c256_i32
  let v165 : BitVec 32 := v164
  let v166 : Index := Scalar.indexCast v165
  let c0_108 : Index := 0#32
  ![v166.toNat, 0]
def k0_off43 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v168 : Index := Scalar.indexCast v137
  let c2_109 : Index := 2#32
  let c0_110 : Index := 0#32
  let c0_111 : Index := 0#32
  ![v168.toNat, 2, 0, 0]
def k0_off44 (k0_t1 : Fin k0_t1_loop.trips) : Fin 4 → Nat :=
  let c1_i32_95 : BitVec 32 := 1#32
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v137 : BitVec 32 := Scalar.subi c1_i32_95 v119
  let v177 : Index := Scalar.indexCast v137
  let c3_113 : Index := 3#32
  let c0_114 : Index := 0#32
  let c0_115 : Index := 0#32
  ![v177.toNat, 3, 0, 0]
def k0_mult116 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32_119 : BitVec 32 := 256#32
  let v191 : BitVec 32 := Scalar.muli v139 c256_i32_119
  v191
def k0_off45 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_96 : BitVec 32 := 1#32
  let v138 : BitVec 32 := Scalar.subi arg12 c1_i32_96
  let c0_i32_97 : BitVec 32 := 0#32
  let v139 : BitVec 32 := Scalar.maxsi v138 c0_i32_97
  let c256_i32_119 : BitVec 32 := 256#32
  let v191 : BitVec 32 := Scalar.muli v139 c256_i32_119
  let v192 : BitVec 32 := v191
  let v193 : Index := Scalar.indexCast v192
  let c128_120 : Index := 128#32
  ![v193.toNat, 128]
def k0_mult117 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_121 : BitVec 32 := 256#32
  let v195 : BitVec 32 := Scalar.muli arg12 c256_i32_121
  v195
def k0_off46 (k0_t1 : Fin k0_t1_loop.trips) : Fin 2 → Nat :=
  let c0_122 : Index := 0#32
  let c0_i32 : BitVec 32 := 0#32
  let c1_i32 : BitVec 32 := 1#32
  let arg12 : BitVec 32 := Scf.iv c0_i32 c1_i32 k0_t1
  let c256_i32_121 : BitVec 32 := 256#32
  let v195 : BitVec 32 := Scalar.muli arg12 c256_i32_121
  let v196 : BitVec 32 := v195
  let v197 : Index := Scalar.indexCast v196
  ![0, v197.toNat]
def k0_off47 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v215 : Index := Scalar.indexCast v119
  let c0_133 : Index := 0#32
  let c0_134 : Index := 0#32
  let c0_135 : Index := 0#32
  ![v215.toNat, 0, 0, 0]
def k0_off48 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v229 : Index := Scalar.indexCast v119
  let c0_142 : Index := 0#32
  let c0_143 : Index := 0#32
  let c0_144 : Index := 0#32
  ![v229.toNat, 0, 0, 0]
def k0_mult118 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_152 : BitVec 32 := 256#32
  let v245 : BitVec 32 := Scalar.muli arg12 c256_i32_152
  v245
def k0_off49 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v265 : Index := Scalar.indexCast v119
  let c1_166 : Index := 1#32
  let c0_167 : Index := 0#32
  let c0_168 : Index := 0#32
  ![v265.toNat, 1, 0, 0]
def k0_off50 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v279 : Index := Scalar.indexCast v119
  let c1_175 : Index := 1#32
  let c0_176 : Index := 0#32
  let c0_177 : Index := 0#32
  ![v279.toNat, 1, 0, 0]
def k0_mult119 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_185 : BitVec 32 := 256#32
  let v295 : BitVec 32 := Scalar.muli arg12 c256_i32_185
  v295
def k0_off51 (k0_t1 : Fin k0_t1_loop.trips) : Fin 2 → Nat :=
  let c128_186 : Index := 128#32
  let c0_i32 : BitVec 32 := 0#32
  let c1_i32 : BitVec 32 := 1#32
  let arg12 : BitVec 32 := Scf.iv c0_i32 c1_i32 k0_t1
  let c256_i32_185 : BitVec 32 := 256#32
  let v295 : BitVec 32 := Scalar.muli arg12 c256_i32_185
  let v296 : BitVec 32 := v295
  let v297 : Index := Scalar.indexCast v296
  ![128, v297.toNat]
def k0_off52 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v315 : Index := Scalar.indexCast v119
  let c2_199 : Index := 2#32
  let c0_200 : Index := 0#32
  let c0_201 : Index := 0#32
  ![v315.toNat, 2, 0, 0]
def k0_off53 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v329 : Index := Scalar.indexCast v119
  let c2_208 : Index := 2#32
  let c0_209 : Index := 0#32
  let c0_210 : Index := 0#32
  ![v329.toNat, 2, 0, 0]
def k0_mult120 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_218 : BitVec 32 := 256#32
  let v345 : BitVec 32 := Scalar.muli arg12 c256_i32_218
  v345
def k0_off54 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v365 : Index := Scalar.indexCast v119
  let c3_232 : Index := 3#32
  let c0_233 : Index := 0#32
  let c0_234 : Index := 0#32
  ![v365.toNat, 3, 0, 0]
def k0_off55 (k0_t1 : Fin k0_t1_loop.trips) : Fin 4 → Nat :=
  let c0_i32 : BitVec 32 := 0#32
  let c1_i32 : BitVec 32 := 1#32
  let arg12 : BitVec 32 := Scf.iv c0_i32 c1_i32 k0_t1
  let c2_i32 : BitVec 32 := 2#32
  let c0_i32_74 : BitVec 32 := 0#32
  let v110 : BitVec 1 := Scalar.cmpi .eq c2_i32 c0_i32_74
  let c1_i32_75 : BitVec 32 := 1#32
  let v111 : BitVec 32 := Scalar.select v110 c1_i32_75 c2_i32
  let v112 : BitVec 32 := Scalar.remsi arg12 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let v379 : Index := Scalar.indexCast v119
  let c3_241 : Index := 3#32
  let c0_242 : Index := 0#32
  let c0_243 : Index := 0#32
  ![v379.toNat, 3, 0, 0]
def k0_mult121 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_251 : BitVec 32 := 256#32
  let v395 : BitVec 32 := Scalar.muli arg12 c256_i32_251
  v395
def k0_mult122 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_283 : BitVec 32 := 256#32
  let v445 : BitVec 32 := Scalar.muli arg12 c256_i32_283
  v445
def k0_mult123 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_316 : BitVec 32 := 256#32
  let v495 : BitVec 32 := Scalar.muli arg12 c256_i32_316
  v495
def k0_mult124 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_349 : BitVec 32 := 256#32
  let v545 : BitVec 32 := Scalar.muli arg12 c256_i32_349
  v545
def k0_mult125 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_382 : BitVec 32 := 256#32
  let v595 : BitVec 32 := Scalar.muli arg12 c256_i32_382
  v595
def k0_mult126 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_414 : BitVec 32 := 256#32
  let v645 : BitVec 32 := Scalar.muli arg12 c256_i32_414
  v645
def k0_mult127 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_447 : BitVec 32 := 256#32
  let v695 : BitVec 32 := Scalar.muli arg12 c256_i32_447
  v695
def k0_mult128 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_480 : BitVec 32 := 256#32
  let v745 : BitVec 32 := Scalar.muli arg12 c256_i32_480
  v745
def k0_mult129 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_514 : BitVec 32 := 256#32
  let v797 : BitVec 32 := Scalar.muli v796 c256_i32_514
  v797
def k0_off56 (k0_t1 : Fin k0_t1_loop.trips) : Fin 2 → Nat :=
  let c0_515 : Index := 0#32
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_514 : BitVec 32 := 256#32
  let v797 : BitVec 32 := Scalar.muli v796 c256_i32_514
  let v798 : BitVec 32 := v797
  let v799 : Index := Scalar.indexCast v798
  ![0, v799.toNat]
def k0_mult130 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_547 : BitVec 32 := 256#32
  let v847 : BitVec 32 := Scalar.muli v796 c256_i32_547
  v847
def k0_mult131 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_580 : BitVec 32 := 256#32
  let v897 : BitVec 32 := Scalar.muli v796 c256_i32_580
  v897
def k0_off57 (k0_t1 : Fin k0_t1_loop.trips) : Fin 2 → Nat :=
  let c128_581 : Index := 128#32
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_580 : BitVec 32 := 256#32
  let v897 : BitVec 32 := Scalar.muli v796 c256_i32_580
  let v898 : BitVec 32 := v897
  let v899 : Index := Scalar.indexCast v898
  ![128, v899.toNat]
def k0_mult132 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_513 : BitVec 32 := 1#32
  let v795 : BitVec 32 := Scalar.addi arg12 c1_i32_513
  let c31_i32 : BitVec 32 := 31#32
  let v796 : BitVec 32 := Scalar.minsi v795 c31_i32
  let c256_i32_613 : BitVec 32 := 256#32
  let v947 : BitVec 32 := Scalar.muli v796 c256_i32_613
  v947
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg_inf" => some ⊥
  | _ => none
-- ==== ReferenceIdeal.lean ====
abbrev S2x8192x8x64 : Shape := ⟨4, ![2, 8192, 8, 64]⟩
abbrev S2x8192x2x64 : Shape := ⟨4, ![2, 8192, 2, 64]⟩
abbrev S2x8192x2x4x64 : Shape := ⟨5, ![2, 8192, 2, 4, 64]⟩
abbrev S2x2x4x8192x64 : Shape := ⟨5, ![2, 2, 4, 8192, 64]⟩
abbrev S2x2x8192x64 : Shape := ⟨4, ![2, 2, 8192, 64]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S16384x512 : Shape := ⟨2, ![16384, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x8192x2x4x64, .f32⟩
  | .hbm, ⟨4, _⟩ => ⟨S2x2x4x8192x64, .f32⟩
  | .hbm, ⟨5, _⟩ => ⟨S2x2x8192x64, .f32⟩
  | .hbm, ⟨6, _⟩ => ⟨S2x2x8192x64, .f32⟩
  | .hbm, ⟨7, _⟩ => ⟨S2x2x4x8192x8192, .f32⟩
  | .hbm, ⟨8, _⟩ => ⟨S_, .f32⟩
  | .hbm, ⟨9, _⟩ => ⟨S2x2x4x8192x8192, .f32⟩
  | .hbm, ⟨10, _⟩ => ⟨S2x2x4x8192x8192, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8192, .f32⟩
  | .hbm, ⟨18, _⟩ => ⟨S2x2x4x8192x8192, .f32⟩
  | .hbm, ⟨19, _⟩ => ⟨S2x2x4x8192x8192, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8192, .f32⟩
  | .hbm, ⟨24, _⟩ => ⟨S2x2x4x8192x8192, .f32⟩
  | .hbm, ⟨25, _⟩ => ⟨S2x2x4x8192x64, .f32⟩
  | .hbm, ⟨26, _⟩ => ⟨S2x8192x2x4x64, .f32⟩
  | .hbm, ⟨27, _⟩ => ⟨S16384x512, .f32⟩
  | .hbm, ⟨28, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Post.lean ====
abbrev S2x8192x512 : Shape := ⟨3, ![2, 8192, 512]⟩
abbrev S2x8192x2048 : Shape := ⟨3, ![2, 8192, 2048]⟩
abbrev S2x8192x1024 : Shape := ⟨3, ![2, 8192, 1024]⟩
abbrev S512x1024 : Shape := ⟨2, ![512, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S16384x512 : Shape := ⟨2, ![16384, 512]⟩
abbrev S16384x2048 : Shape := ⟨2, ![16384, 2048]⟩
abbrev S16384x3584 : Shape := ⟨2, ![16384, 3584]⟩
abbrev S128x8 : Shape := ⟨2, ![128, 8]⟩
abbrev S128x8x64 : Shape := ⟨3, ![128, 8, 64]⟩
abbrev S128x512 : Shape := ⟨2, ![128, 512]⟩
abbrev S16384x1024 : Shape := ⟨2, ![16384, 1024]⟩
abbrev S1x1024 : Shape := ⟨2, ![1, 1024]⟩
abbrev S512x512 : Shape := ⟨2, ![512, 512]⟩
abbrev S3x512x3584 : Shape := ⟨3, ![3, 512, 3584]⟩
abbrev S3 : Shape := ⟨1, ![3]⟩
abbrev S1 : Shape := ⟨1, ![1]⟩
abbrev S_ : Shape := ⟨0, ![]⟩
abbrev S1x512x3584 : Shape := ⟨3, ![1, 512, 3584]⟩
abbrev S512x3584 : Shape := ⟨2, ![512, 3584]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩
abbrev S512 : Shape := ⟨1, ![512]⟩
abbrev S512x1 : Shape := ⟨2, ![512, 1]⟩

abbrev nBuf : Space → Nat
  | .hbm => 26
  | .vmem => 14
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x2048, .f32⟩
  | .hbm, ⟨5, _⟩ => ⟨S2x8192x1024, .f32⟩
  | .hbm, ⟨6, _⟩ => ⟨S512x1024, .f32⟩
  | .hbm, ⟨7, _⟩ => ⟨S8x128x128, .f32⟩
  | .hbm, ⟨8, _⟩ => ⟨S8x128, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x2048, .f32⟩
  | .hbm, ⟨18, _⟩ => ⟨S16384x3584, .f32⟩
  | .hbm, ⟨19, _⟩ => ⟨S16384x3584, .bf16⟩
  | .hbm, ⟨20, _⟩ => ⟨S128x8, .f32⟩
  | .hbm, ⟨21, _⟩ => ⟨S128x8x64, .f32⟩
  | .hbm, ⟨22, _⟩ => ⟨S128x512, .f32⟩
  | .hbm, ⟨23, _⟩ => ⟨S16384x1024, .f32⟩
  | .hbm, ⟨24, _⟩ => ⟨S1x1024, .f32⟩
  | .hbm, ⟨25, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S8x128x128, .f32⟩
  | .local _ .vmem, ⟨8, _⟩ => ⟨S128x512, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S3x512x3584, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_98 : BitVec 32 := 0#32
  c0_i32_98
def k0_mult2 : BitVec 32 :=
  let c512_i32_104 : BitVec 32 := 512#32
  c512_i32_104
def k0_mult3 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 1 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, 0, 0]
def k0_off3 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let c0_i32_7 : BitVec 32 := 0#32
  ![v14.toNat, 0]
def k0_cond2 (i : grid0.Coords) : BitVec 1 :=
  let arg0 : BitVec 32 := BitVec.ofNat 32 (i 0).val
  let c2_i32 : BitVec 32 := 2#32
  let v218 : BitVec 32 := Scalar.addi arg0 c2_i32
  let c32_i32 : BitVec 32 := 32#32
  let v219 : BitVec 1 := Scalar.cmpi .slt v218 c32_i32
  let v220 : BitVec 32 := Scalar.extui v219
  let c0_i32_97 : BitVec 32 := 0#32
  let v221 : BitVec 1 := Scalar.cmpi .ne v220 c0_i32_97
  v221

def k0_mult4 (i : grid0.Coords) : BitVec 32 :=
  let arg0 : BitVec 32 := BitVec.ofNat 32 (i 0).val
  let c2_i32_98 : BitVec 32 := 2#32
  let v222 : BitVec 32 := Scalar.addi arg0 c2_i32_98
  let c512_i32_105 : BitVec 32 := 512#32
  let v233 : BitVec 32 := Scalar.muli v222 c512_i32_105
  v233
def k0_off4 (i : grid0.Coords) : Fin 1 → Nat :=
  let arg0 : BitVec 32 := BitVec.ofNat 32 (i 0).val
  let c2_i32_98 : BitVec 32 := 2#32
  let v222 : BitVec 32 := Scalar.addi arg0 c2_i32_98
  let c3_i32_99 : BitVec 32 := 3#32
  let c0_i32_100 : BitVec 32 := 0#32
  let v223 : BitVec 1 := Scalar.cmpi .eq c3_i32_99 c0_i32_100
  let c1_i32_101 : BitVec 32 := 1#32
  let v224 : BitVec 32 := Scalar.select v223 c1_i32_101 c3_i32_99
  let v225 : BitVec 32 := Scalar.remsi v222 v224
  let c0_i32_103 : BitVec 32 := 0#32
  let v227 : BitVec 1 := Scalar.cmpi .slt v225 c0_i32_103
  let c0_i32_104 : BitVec 32 := 0#32
  let v228 : BitVec 1 := Scalar.cmpi .slt v224 c0_i32_104
  let v229 : BitVec 1 := Scalar.xori v227 v228
  let c0_i32_102 : BitVec 32 := 0#32
  let v226 : BitVec 1 := Scalar.cmpi .ne v225 c0_i32_102
  let v230 : BitVec 1 := Scalar.andi v229 v226
  let v231 : BitVec 32 := Scalar.addi v225 v224
  let v232 : BitVec 32 := Scalar.select v230 v231 v225
  ![v232.toNat]
def k0_off5 (i : grid0.Coords) : Fin 3 → Nat :=
  let arg0 : BitVec 32 := BitVec.ofNat 32 (i 0).val
  let c2_i32_98 : BitVec 32 := 2#32
  let v222 : BitVec 32 := Scalar.addi arg0 c2_i32_98
  let c3_i32_99 : BitVec 32 := 3#32
  let c0_i32_100 : BitVec 32 := 0#32
  let v223 : BitVec 1 := Scalar.cmpi .eq c3_i32_99 c0_i32_100
  let c1_i32_101 : BitVec 32 := 1#32
  let v224 : BitVec 32 := Scalar.select v223 c1_i32_101 c3_i32_99
  let v225 : BitVec 32 := Scalar.remsi v222 v224
  let c0_i32_103 : BitVec 32 := 0#32
  let v227 : BitVec 1 := Scalar.cmpi .slt v225 c0_i32_103
  let c0_i32_104 : BitVec 32 := 0#32
  let v228 : BitVec 1 := Scalar.cmpi .slt v224 c0_i32_104
  let v229 : BitVec 1 := Scalar.xori v227 v228
  let c0_i32_102 : BitVec 32 := 0#32
  let v226 : BitVec 1 := Scalar.cmpi .ne v225 c0_i32_102
  let v230 : BitVec 1 := Scalar.andi v229 v226
  let v231 : BitVec 32 := Scalar.addi v225 v224
  let v232 : BitVec 32 := Scalar.select v230 v231 v225
  let c0_i32_106 : BitVec 32 := 0#32
  let c0_i32_107 : BitVec 32 := 0#32
  ![v232.toNat, 0, 0]
def k0_off6 (i : grid0.Coords) : Fin 2 → Nat :=
  let arg0 : BitVec 32 := BitVec.ofNat 32 (i 0).val
  let c2_i32_98 : BitVec 32 := 2#32
  let v222 : BitVec 32 := Scalar.addi arg0 c2_i32_98
  let c512_i32_105 : BitVec 32 := 512#32
  let v233 : BitVec 32 := Scalar.muli v222 c512_i32_105
  let v234 : BitVec 32 := v233
  let c0_i32_108 : BitVec 32 := 0#32
  ![v234.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S2x8192x512 : Shape := ⟨3, ![2, 8192, 512]⟩
abbrev S2x8192x2048 : Shape := ⟨3, ![2, 8192, 2048]⟩
abbrev S2x8192x1024 : Shape := ⟨3, ![2, 8192, 1024]⟩
abbrev S512x1024 : Shape := ⟨2, ![512, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S2x64x128x8x64 : Shape := ⟨5, ![2, 64, 128, 8, 64]⟩
abbrev S8x2x64x64x128 : Shape := ⟨5, ![8, 2, 64, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x8192x2x1024 : Shape := ⟨4, ![2, 8192, 2, 1024]⟩
abbrev S2x8192x1x1024 : Shape := ⟨4, ![2, 8192, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x2048, .f32⟩
  | .hbm, ⟨5, _⟩ => ⟨S2x8192x1024, .f32⟩
  | .hbm, ⟨6, _⟩ => ⟨S512x1024, .f32⟩
  | .hbm, ⟨7, _⟩ => ⟨S8x128x128, .f32⟩
  | .hbm, ⟨8, _⟩ => ⟨S8x128, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S2x8192x512, .f32⟩
  | .hbm, ⟨13, _⟩ => ⟨S2x8192x1024, .f32⟩
  | .hbm, ⟨14, _⟩ => ⟨S2x64x128x8x64, .f32⟩
  | .hbm, ⟨15, _⟩ => ⟨S8x2x64x64x128, .f32⟩
  | .hbm, ⟨16, _⟩ => ⟨S2x64x128x8x64, .f32⟩
  | .hbm, ⟨17, _⟩ => ⟨S128x8, .f32⟩
  | .hbm, ⟨18, _⟩ => ⟨S128x8x1, .f32⟩
  | .hbm, ⟨19, _⟩ => ⟨S1x1x128x8x1, .f32⟩
  | .hbm, ⟨20, _⟩ => ⟨S2x64x128x8x64, .f32⟩
  | .hbm, ⟨21, _⟩ => ⟨S2x64x128x8x64, .f32⟩
  | .hbm, ⟨22, _⟩ => ⟨S2x8192x512, .f32⟩
  | .hbm, ⟨23, _⟩ => ⟨S2x8192x512, .f32⟩
  | .hbm, ⟨24, _⟩ => ⟨S2x8192x1024, .f32⟩
  | .hbm, ⟨25, _⟩ => ⟨S2x8192x2x1024, .f32⟩
  | .hbm, ⟨26, _⟩ => ⟨S2x8192x1x1024, .f32⟩
  | .hbm, ⟨27, _⟩ => ⟨S2x8192x1024, .f32⟩
  | .hbm, ⟨28, _⟩ => ⟨S2x8192x1024, .f32⟩
  | .hbm, ⟨29, _⟩ => ⟨S2x8192x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Units.lean ====
module

public import proofs.«01_k».proof.Proof.Gen.KernelIdeal.Skeleton
public import Idealize.ShloMosaic.Lib.VecWindow

/-! The attention body as a list of operations.

The kernel body writes the same few pieces of text out many times: the scores of one head of one chunk of
keys, the update of one head's running sums by one chunk, the division that finishes two heads, the reset
of the running maxima.  Here each piece is one operation `Op`, given by the places it reads and writes, and
the body is shown to be a list of them, run one after another. -/

@[expose] public section

noncomputable section

namespace Cert.KernelIdeal.Attn

open Cert.KernelIdeal Cert.KernelIdeal.Gen
open Idealize.ShloMosaic Idealize.SL.Sem

variable {F : FTy → Type} [FloatOps F] [Named F]

/-- The buffers of the attention body: queries, keys, values, output, running maxima, running sums, and the
    two pairs of buffers of scores and column maxima. -/
structure Refs where
  q : Memref sig .tc .vmem S256x8192 .bf16
  hq : q.IsWhole
  k : Memref sig .tc .vmem S8192x256 .bf16
  hk : k.IsWhole
  v : Memref sig .tc .vmem S128x8192 .f32
  hv : v.IsWhole
  o : Memref sig .tc .vmem S8192x256 .bf16
  ho : o.IsWhole
  m : Memref sig .tc .vmem S2x4x8x256 .f32
  hm : m.IsWhole
  a : Memref sig .tc .vmem S2x4x128x256 .f32
  ha : a.IsWhole
  s0 : Memref sig .tc .vmem S4x512x256 .f32
  hs0 : s0.IsWhole
  s1 : Memref sig .tc .vmem S4x512x256 .f32
  hs1 : s1.IsWhole
  c0 : Memref sig .tc .vmem S4x8x256 .f32
  hc0 : c0.IsWhole
  c1 : Memref sig .tc .vmem S4x8x256 .f32
  hc1 : c1.IsWhole

theorem inb_s (h : Fin 4) : ∀ a, (![h.val, 0, 0] : Fin 3 → ℕ) a + S1x512x256.size a ≤ S4x512x256.size a := by
  revert h; decide

theorem inb_c (h : Fin 4) : ∀ a, (![h.val, 0, 0] : Fin 3 → ℕ) a + S1x8x256.size a ≤ S4x8x256.size a := by
  revert h; decide

/-- One piece of the body, by the places it reads and writes. -/
inductive Op where
  /-- Scores of head `h` into the buffers `b`: query columns at `oq`, key rows at `ok`. -/
  | sc (b : Bool) (oq : Fin 2 → ℕ) (hq : ∀ a, oq a + S128x256.size a ≤ S256x8192.size a)
      (ok : Fin 2 → ℕ) (hk : ∀ a, ok a + S512x128.size a ≤ S8192x256.size a) (h : Fin 4)
  /-- The running sums at `oa` and maxima at `om` updated by head `h` of the buffers `b`, values at `ov`. -/
  | ac (b : Bool) (ov : Fin 2 → ℕ) (hv : ∀ a, ov a + S72x512.size a ≤ S128x8192.size a)
      (om : Fin 4 → ℕ) (hm : ∀ a, om a + S1x1x8x256.size a ≤ S2x4x8x256.size a)
      (oa : Fin 4 → ℕ) (ha : ∀ a, oa a + S1x1x72x256.size a ≤ S2x4x128x256.size a) (h : Fin 4)
  /-- Two heads' sums at `oa`, `ob` divided by their totals and written to the output at `oo`. -/
  | fin (oa : Fin 4 → ℕ) (ha : ∀ a, oa a + S1x1x128x256.size a ≤ S2x4x128x256.size a)
      (ob : Fin 4 → ℕ) (hb : ∀ a, ob a + S1x1x128x256.size a ≤ S2x4x128x256.size a)
      (oo : Fin 2 → ℕ) (ho : ∀ a, oo a + S256x128.size a ≤ S8192x256.size a)
      (hp : (Rect.unit (s := S8192x256) oo S256x128.size ho).PackedRows (EltTy.packing .bf16))
  /-- The running maxima at `om` set to the lowest value. -/
  | reset (om : Fin 4 → ℕ) (hm : ∀ a, om a + S1x4x8x256.size a ≤ S2x4x8x256.size a)
  /-- The running sums set to one. -/
  | init

/-- The score buffers `b`. -/
@[reducible] def Refs.s (R : Refs) (b : Bool) : Memref sig .tc .vmem S4x512x256 .f32 := cond b R.s1 R.s0

/-- The column-maximum buffers `b`. -/
@[reducible] def Refs.c (R : Refs) (b : Bool) : Memref sig .tc .vmem S4x8x256 .f32 := cond b R.c1 R.c0

/-- The program of the scores of one head. -/
def scU (R : Refs) (b : Bool) (oq : Fin 2 → ℕ) (hq : ∀ a, oq a + S128x256.size a ≤ S256x8192.size a)
    (ok : Fin 2 → ℕ) (hk : ∀ a, ok a + S512x128.size a ≤ S8192x256.size a) (h : Fin 4) :
    Prog (TpuEff nD τ sig (Elt F) Λ₀ .tc) PUnit := do
  let q : Vec F S128x256 .bf16 ← Prog.lift (.load R.q (Rect.unit (s := S256x8192) oq S128x256.size hq).toLoadRect (View.loadsAt_vmem h_S128x256))
  let k : Vec F S512x128 .bf16 ← Prog.lift (.load R.k (Rect.unit (s := S8192x256) ok S512x128.size hk).toLoadRect (View.loadsAt_vmem h_S512x128))
  let _w : Vec F S1x512x256 .f32 ← Prog.lift (.load (R.s b) (Rect.unit (s := S4x512x256) ![h.val, 0, 0] S1x512x256.size (inb_s h)).toLoadRect (View.loadsAt_vmem h_S1x512x256))
  Prog.lift (.store (R.s b) (Rect.unit (s := S4x512x256) ![h.val, 0, 0] S1x512x256.size (inb_s h)) (k0_pay844 q k) Finset.univ (View.stores_vmem_bits_univ h_S1x512x256 rfl) (.inl rfl))
  let _w : Vec F S1x8x256 .f32 ← Prog.lift (.load (R.c b) (Rect.unit (s := S4x8x256) ![h.val, 0, 0] S1x8x256.size (inb_c h)).toLoadRect (View.loadsAt_vmem h_S1x8x256))
  Prog.lift (.store (R.c b) (Rect.unit (s := S4x8x256) ![h.val, 0, 0] S1x8x256.size (inb_c h)) (k0_pay845 q k) Finset.univ (View.stores_vmem_bits_univ h_S1x8x256 rfl) (.inl rfl))

/-- The program of one head's update by one chunk. -/
def acU (R : Refs) (b : Bool) (ov : Fin 2 → ℕ) (hv : ∀ a, ov a + S72x512.size a ≤ S128x8192.size a)
    (om : Fin 4 → ℕ) (hm : ∀ a, om a + S1x1x8x256.size a ≤ S2x4x8x256.size a)
    (oa : Fin 4 → ℕ) (ha : ∀ a, oa a + S1x1x72x256.size a ≤ S2x4x128x256.size a) (h : Fin 4) :
    Prog (TpuEff nD τ sig (Elt F) Λ₀ .tc) PUnit := do
  let v : Vec F S72x512 .f32 ← Prog.lift (.load R.v (Rect.unit (s := S128x8192) ov S72x512.size hv).toLoadRect (View.loadsAt_vmem h_S72x512))
  let m : Vec F S1x1x8x256 .f32 ← Prog.lift (.load R.m (Rect.unit (s := S2x4x8x256) om S1x1x8x256.size hm).toLoadRect (View.loadsAt_vmem h_S1x1x8x256))
  let c : Vec F S1x8x256 .f32 ← Prog.lift (.load (R.c b) (Rect.unit (s := S4x8x256) ![h.val, 0, 0] S1x8x256.size (inb_c h)).toLoadRect (View.loadsAt_vmem h_S1x8x256))
  let s : Vec F S1x512x256 .f32 ← Prog.lift (.load (R.s b) (Rect.unit (s := S4x512x256) ![h.val, 0, 0] S1x512x256.size (inb_s h)).toLoadRect (View.loadsAt_vmem h_S1x512x256))
  let a : Vec F S1x1x72x256 .f32 ← Prog.lift (.load R.a (Rect.unit (s := S2x4x128x256) oa S1x1x72x256.size ha).toLoadRect (View.loadsAt_vmem h_S1x1x72x256))
  let _w : Vec F S1x1x72x256 .f32 ← Prog.lift (.load R.a (Rect.unit (s := S2x4x128x256) oa S1x1x72x256.size ha).toLoadRect (View.loadsAt_vmem h_S1x1x72x256))
  Prog.lift (.store R.a (Rect.unit (s := S2x4x128x256) oa S1x1x72x256.size ha) (k0_pay848 v m c s a) Finset.univ (View.stores_vmem_bits_univ h_S1x1x72x256 rfl) (.inl rfl))
  let _w : Vec F S1x1x8x256 .f32 ← Prog.lift (.load R.m (Rect.unit (s := S2x4x8x256) om S1x1x8x256.size hm).toLoadRect (View.loadsAt_vmem h_S1x1x8x256))
  Prog.lift (.store R.m (Rect.unit (s := S2x4x8x256) om S1x1x8x256.size hm) (k0_pay849 m c) Finset.univ (View.stores_vmem_bits_univ h_S1x1x8x256 rfl) (.inl rfl))

/-- The program of finishing two heads of one block of queries. -/
def finU (R : Refs) (oa : Fin 4 → ℕ) (ha : ∀ a, oa a + S1x1x128x256.size a ≤ S2x4x128x256.size a)
    (ob : Fin 4 → ℕ) (hb : ∀ a, ob a + S1x1x128x256.size a ≤ S2x4x128x256.size a)
    (oo : Fin 2 → ℕ) (ho : ∀ a, oo a + S256x128.size a ≤ S8192x256.size a)
    (hp : (Rect.unit (s := S8192x256) oo S256x128.size ho).PackedRows (EltTy.packing .bf16)) :
    Prog (TpuEff nD τ sig (Elt F) Λ₀ .tc) PUnit := do
  let a : Vec F S1x1x128x256 .f32 ← Prog.lift (.load R.a (Rect.unit (s := S2x4x128x256) oa S1x1x128x256.size ha).toLoadRect (View.loadsAt_vmem h_S1x1x128x256))
  let b : Vec F S1x1x128x256 .f32 ← Prog.lift (.load R.a (Rect.unit (s := S2x4x128x256) ob S1x1x128x256.size hb).toLoadRect (View.loadsAt_vmem h_S1x1x128x256))
  let _w : Vec F S256x128 .bf16 ← Prog.lift (.load R.o (Rect.unit (s := S8192x256) oo S256x128.size ho).toLoadRect (View.loadsAt_vmem h_S256x128))
  Prog.lift (.store R.o (Rect.unit (s := S8192x256) oo S256x128.size ho) (k0_pay840 a b) Finset.univ (View.stores_vmem h_S256x128 (R.ho.storeExact_slice rfl _ hp) (fun _ => rfl)) (.inl rfl))

/-- The program of resetting the running maxima. -/
def resetU (R : Refs) (om : Fin 4 → ℕ) (hm : ∀ a, om a + S1x4x8x256.size a ≤ S2x4x8x256.size a) :
    Prog (TpuEff nD τ sig (Elt F) Λ₀ .tc) PUnit := do
  let _w : Vec F S1x4x8x256 .f32 ← Prog.lift (.load R.m (Rect.unit (s := S2x4x8x256) om S1x4x8x256.size hm).toLoadRect (View.loadsAt_vmem h_S1x4x8x256))
  Prog.lift (.store R.m (Rect.unit (s := S2x4x8x256) om S1x4x8x256.size hm) (k0_pay1141 (F := F)) Finset.univ (View.stores_vmem_bits_univ h_S1x4x8x256 rfl) (.inl rfl))

/-- The program of setting the running sums to one. -/
def initU (R : Refs) : Prog (TpuEff nD τ sig (Elt F) Λ₀ .tc) PUnit := do
  let _w : Vec F S2x4x128x256 .f32 ← Prog.lift (.load R.a (Rect.unit (s := S2x4x128x256) ![0, 0, 0, 0] S2x4x128x256.size inb_S2x4x128x256_S2x4x128x256_0_0_0_0).toLoadRect (View.loadsAt_vmem h_S2x4x128x256))
  Prog.lift (.store R.a (Rect.unit (s := S2x4x128x256) ![0, 0, 0, 0] S2x4x128x256.size inb_S2x4x128x256_S2x4x128x256_0_0_0_0) (k0_pay1126 (F := F)) Finset.univ (View.stores_vmem_bits_univ h_S2x4x128x256 rfl) (.inl rfl))

/-- The program of one operation. -/
def Op.prog (R : Refs) : Op → Prog (TpuEff nD τ sig (Elt F) Λ₀ .tc) PUnit
  | .sc b oq hq ok hk h => scU R b oq hq ok hk h
  | .ac b ov hv om hm oa ha h => acU R b ov hv om hm oa ha h
  | .fin oa ha ob hb oo ho hp => finU R oa ha ob hb oo ho hp
  | .reset om hm => resetU R om hm
  | .init => initU R

/-- The program of a list of operations, one after another. -/
def progs (R : Refs) : List Op → Prog (TpuEff nD τ sig (Elt F) Λ₀ .tc) PUnit
  | [] => pure ⟨⟩
  | p :: ps => do
    p.prog R
    progs R ps

theorem inb_kx (c : Fin 16) (h : Fin 4) :
    ∀ a, (![512 * c.val, 128 * (h.val % 2)] : Fin 2 → ℕ) a + S512x128.size a ≤ S8192x256.size a := by
  revert c h; decide

theorem inb_vx (c : Fin 16) : ∀ a, (![0, 512 * c.val] : Fin 2 → ℕ) a + S72x512.size a ≤ S128x8192.size a := by
  revert c; decide

/-- The places one block of queries reads and writes: its query columns for the next chunk of scores, and its
    running maxima and sums, by head. -/
structure Offs where
  q : Fin 4 → Fin 2 → ℕ
  hq : ∀ h a, q h a + S128x256.size a ≤ S256x8192.size a
  m : Fin 4 → Fin 4 → ℕ
  hm : ∀ h a, m h a + S1x1x8x256.size a ≤ S2x4x8x256.size a
  a : Fin 4 → Fin 4 → ℕ
  ha : ∀ h a', a h a' + S1x1x72x256.size a' ≤ S2x4x128x256.size a'

/-- One step over the keys: for every head, the scores of chunk `c'` into the other buffers, then the update by
    chunk `c` from the buffers `b`. -/
def stepOps (O : Offs) (b : Bool) (c c' : Fin 16) : List Op :=
  ([0, 1, 2, 3] : List (Fin 4)).flatMap fun h =>
    [.sc (!b) (O.q h) (O.hq h) ![512 * c'.val, 128 * (h.val % 2)] (inb_kx c' h) h,
     .ac b ![0, 512 * c.val] (inb_vx c) (O.m h) (O.hm h) (O.a h) (O.ha h) h]

/-- The places of the region of the first chunks, as the kernel computes them. -/
def offs2 (t : Fin k0_t1_loop.trips) : Offs where
  q := ![k0_off2 t, k0_off2 t, k0_off7 t, k0_off7 t]
  hq h := match h with | 0 => k0_off2_inb t | 1 => k0_off2_inb t | 2 => k0_off7_inb t | 3 => k0_off7_inb t
  m := ![k0_off3 t, k0_off5 t, k0_off8 t, k0_off10 t]
  hm h := match h with | 0 => k0_off3_inb t | 1 => k0_off5_inb t | 2 => k0_off8_inb t | 3 => k0_off10_inb t
  a := ![k0_off4 t, k0_off6 t, k0_off9 t, k0_off11 t]
  ha h := match h with | 0 => k0_off4_inb t | 1 => k0_off6_inb t | 2 => k0_off9_inb t | 3 => k0_off11_inb t

/-- The places of the region of the last chunks, as the kernel computes them. -/
def offs4 (t : Fin k0_t1_loop.trips) : Offs where
  q := ![k0_off28 t, k0_off28 t, k0_off33 t, k0_off33 t]
  hq h := match h with | 0 => k0_off28_inb t | 1 => k0_off28_inb t | 2 => k0_off33_inb t | 3 => k0_off33_inb t
  m := ![k0_off29 t, k0_off31 t, k0_off34 t, k0_off36 t]
  hm h := match h with | 0 => k0_off29_inb t | 1 => k0_off31_inb t | 2 => k0_off34_inb t | 3 => k0_off36_inb t
  a := ![k0_off30 t, k0_off32 t, k0_off35 t, k0_off37 t]
  ha h := match h with | 0 => k0_off30_inb t | 1 => k0_off32_inb t | 2 => k0_off35_inb t | 3 => k0_off37_inb t

/-- The same with the query columns of the next block. -/
def offs4' (t : Fin k0_t1_loop.trips) : Offs where
  q := ![k0_off38 t, k0_off38 t, k0_off39 t, k0_off39 t]
  hq h := match h with | 0 => k0_off38_inb t | 1 => k0_off38_inb t | 2 => k0_off39_inb t | 3 => k0_off39_inb t
  m := (offs4 t).m
  hm := (offs4 t).hm
  a := (offs4 t).a
  ha := (offs4 t).ha

/-- The operations of the first region: chunks 0 to 11. -/
def ops2 (t : Fin k0_t1_loop.trips) : List Op :=
  ([0, 1, 2, 3, 4, 5] : List (Fin 6)).flatMap fun j =>
    stepOps (offs2 t) false ⟨2 * j.val, by omega⟩ ⟨2 * j.val + 1, by omega⟩
      ++ stepOps (offs2 t) true ⟨2 * j.val + 1, by omega⟩ ⟨2 * j.val + 2, by omega⟩

/-- The operations of the second region: the block before is finished, then chunks 12 to 15. -/
def ops4 (t : Fin k0_t1_loop.trips) : List Op :=
  [.fin (k0_off22 t) (k0_off22_inb t) (k0_off23 t) (k0_off23_inb t) (k0_off24 t) (k0_off24_inb t) (k0_off24_packedbf16 t),
   .fin (k0_off25 t) (k0_off25_inb t) (k0_off26 t) (k0_off26_inb t) (k0_off27 t) (k0_off27_inb t) (k0_off27_packedbf16 t)]
    ++ (stepOps (offs4 t) false 12 13 ++ stepOps (offs4 t) true 13 14 ++ stepOps (offs4 t) false 14 15
      ++ stepOps (offs4' t) true 15 0)

end Cert.KernelIdeal.Attn
-- ==== Proof.Ops.lean ====
module

public import proofs.«01_k».proof.Proof.Units
public import Idealize.ShloMosaic.Lib.Pipeline.TableIdle

/-! The attention body is the list of its operations: both inner regions run once, the outer loop runs once
per block of queries. -/

@[expose] public section

noncomputable section

namespace Cert.KernelIdeal.Attn

open Cert.KernelIdeal Cert.KernelIdeal.Gen
open Idealize.ShloMosaic Idealize.SL.Sem

variable {F : FTy → Type} [FloatOps F] [Named F]

theorem progs_append (R : Refs) (xs ys : List Op) :
    progs (F := F) R (xs ++ ys) = (progs R xs >>= fun _ => progs R ys) := by
  induction xs with
  | nil => rfl
  | cons x xs ih =>
    show (x.prog R >>= fun _ => progs R (xs ++ ys)) = ((x.prog R >>= fun _ => progs R xs) >>= fun _ => progs R ys)
    rw [Prog.bind_assoc]
    simp only [ih]

theorem forFrom_progs (R : Refs) {n : ℕ} (body : Fin n → Unit → Prog (TpuEff nD τ sig (Elt F) Λ₀ .tc) Unit) (f : Fin n → List Op)
    (h : ∀ t, body t ⟨⟩ = progs R (f t)) (L : List (Fin n)) :
    Scf.forFrom body L ⟨⟩ = progs R (L.flatMap f) := by
  induction L with
  | nil => rfl
  | cons t ts ih =>
    rw [Scf.forFrom_cons, List.flatMap_cons, progs_append, h]
    exact congrArg _ (funext fun _ => ih)

/-- The first region is its operations. -/
theorem t2_body_eq (R : Refs) (i : grid0.Coords) (v59 : FVec F S1x256 .f32) (t : Fin k0_t1_loop.trips) (a b : BitVec 32)
    (j : Fin (k0_t2_loop t).trips) :
    k0_t2_body i R.q R.hq R.k R.hk R.v R.hv R.o R.ho R.m R.hm R.a R.ha R.s0 R.hs0 R.s1 R.hs1 R.c0 R.hc0 R.c1 R.hc1 v59 t a b j ⟨⟩
      = progs R (ops2 t) := by
  set_option maxRecDepth 65536 in exact rfl

/-- The second region is its operations. -/
theorem t4_body_eq (R : Refs) (i : grid0.Coords) (v59 : FVec F S1x256 .f32) (t : Fin k0_t1_loop.trips) (a b : BitVec 32)
    (j : Fin (k0_t4_loop t).trips) :
    k0_t4_body i R.q R.hq R.k R.hk R.v R.hv R.o R.ho R.m R.hm R.a R.ha R.s0 R.hs0 R.s1 R.hs1 R.c0 R.hc0 R.c1 R.hc1 v59 t a b j ⟨⟩
      = progs R (ops4 t) := by
  set_option maxRecDepth 65536 in exact rfl

/-- One block of queries: the running maxima reset, then both regions. -/
def blockOps (t : Fin k0_t1_loop.trips) : List Op :=
  .reset (k0_off1 t) (k0_off1_inb t) :: (ops2 t ++ ops4 t)

theorem trips2 : ∀ t, (k0_t2_loop t).trips = 1 := by decide +kernel
theorem trips3 : ∀ t, (k0_t3_loop t).trips = 0 := by decide +kernel
theorem trips4 : ∀ t, (k0_t4_loop t).trips = 1 := by decide +kernel
theorem trips5 : ∀ t, (k0_t5_loop t).trips = 0 := by decide +kernel

/-- One trip of the outer loop is one block of queries. -/
theorem t1_body_eq (R : Refs) (i : grid0.Coords) (v59 : FVec F S1x256 .f32) (t : Fin k0_t1_loop.trips) :
    k0_t1_body i R.q R.hq R.k R.hk R.v R.hv R.o R.ho R.m R.hm R.a R.ha R.s0 R.hs0 R.s1 R.hs1 R.c0 R.hc0 R.c1 R.hc1 v59 t ⟨⟩
      = progs R (blockOps t) := by
  unfold k0_t1_body
  dsimp only
  simp only [Scf.for_trips1_bind _ _ (trips2 t), Scf.for_trips0_bind _ _ (trips3 t), Scf.for_trips1_bind _ _ (trips4 t),
    Scf.for_trips0_bind _ _ (trips5 t), t2_body_eq, t4_body_eq]
  show _ = (resetU R _ _ >>= fun _ => progs R (ops2 t ++ ops4 t))
  rw [progs_append]
  unfold resetU
  simp only [Prog.bind_assoc]
  have hp : ∀ p : Prog (TpuEff nD τ sig (Elt F) Λ₀ .tc) Unit, (p >>= fun _ => pure ⟨⟩) = p := fun p => Prog.bind_pure p
  simp only [hp]

/-- Before the loop: the sums set to one, the scores of the first block of queries with the first chunk. -/
def preOps : List Op :=
  [.init, .sc false ![0, 0] inb_S256x8192_S128x256_0_0 ![0, 0] inb_S8192x256_S512x128_0_0 0,
    .sc false ![0, 0] inb_S256x8192_S128x256_0_0 ![0, 128] inb_S8192x256_S512x128_0_128 1,
    .sc false ![128, 0] inb_S256x8192_S128x256_128_0 ![0, 0] inb_S8192x256_S512x128_0_0 2,
    .sc false ![128, 0] inb_S256x8192_S128x256_128_0 ![0, 128] inb_S8192x256_S512x128_0_128 3]

/-- After the loop: the last block of queries is finished. -/
def postOps : List Op :=
  [.fin ![1, 0, 0, 0] inb_S2x4x128x256_S1x1x128x256_1_0_0_0 ![1, 1, 0, 0] inb_S2x4x128x256_S1x1x128x256_1_1_0_0
      ![7936, 0] inb_S8192x256_S256x128_7936_0 packedbf16_S8192x256_S256x128_7936_0,
    .fin ![1, 2, 0, 0] inb_S2x4x128x256_S1x1x128x256_1_2_0_0 ![1, 3, 0, 0] inb_S2x4x128x256_S1x1x128x256_1_3_0_0
      ![7936, 128] inb_S8192x256_S256x128_7936_128 packedbf16_S8192x256_S256x128_7936_128]

/-- The operations of all blocks of queries. -/
def loopOps : List Op := (List.finRange k0_t1_loop.trips).flatMap blockOps

/-- The operations of the whole body. -/
def allOps : List Op := preOps ++ (loopOps ++ postOps)

/-- The outer loop is its operations. -/
theorem t1_loop_eq (R : Refs) (i : grid0.Coords) (v59 : FVec F S1x256 .f32) :
    Scf.Loop.for k0_t1_loop k0_t1_ok ⟨⟩
      (k0_t1_body i R.q R.hq R.k R.hk R.v R.hv R.o R.ho R.m R.hm R.a R.ha R.s0 R.hs0 R.s1 R.hs1 R.c0 R.hc0 R.c1 R.hc1 v59)
      = progs R loopOps := by
  unfold Scf.Loop.for
  rw [Scf.for_eq]
  exact forFrom_progs R _ _ (t1_body_eq R i v59) _

/-- The attention body is its operations. -/
theorem attention_eq (R : Refs) (i : grid0.Coords) :
    cc0_attention (F := F) i R.q R.hq R.k R.hk R.v R.hv R.o R.ho R.m R.hm R.a R.ha R.s0 R.hs0 R.s1 R.hs1 R.c0 R.hc0 R.c1 R.hc1
      = progs R allOps := by
  rw [cc0_attention_eq_skeleton]
  unfold cc0_attention_skel
  rw [k0_part193_eq_skeleton]
  unfold k0_part193_skel
  simp only [t1_loop_eq]
  unfold allOps
  rw [progs_append, progs_append]
  generalize progs (F := F) R loopOps = L
  simp only [Prog.bind_assoc]
  set_option maxRecDepth 65536 in exact rfl

end Cert.KernelIdeal.Attn
-- ==== Proof.Run.lean ====
module

public import proofs.«01_k».proof.Proof.Ops
public import proofs.«01_k».proof.Proof.Gen.KernelIdeal.Frame

/-! What one operation does to the contents of the buffers, and that running its program does it. -/

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- The contents of the buffers. -/
structure St (F : FTy → Type) where
  q : Vec F S256x8192 .bf16
  k : Vec F S8192x256 .bf16
  v : Vec F S128x8192 .f32
  o : Vec F S8192x256 .bf16
  m : Vec F S2x4x8x256 .f32
  a : Vec F S2x4x128x256 .f32
  s0 : Vec F S4x512x256 .f32
  s1 : Vec F S4x512x256 .f32
  c0 : Vec F S4x8x256 .f32
  c1 : Vec F S4x8x256 .f32

/-- The scores in the buffers `b`. -/
def St.s (S : St F) (b : Bool) : Vec F S4x512x256 .f32 := cond b S.s1 S.s0

/-- The column maxima in the buffers `b`. -/
def St.c (S : St F) (b : Bool) : Vec F S4x8x256 .f32 := cond b S.c1 S.c0

/-- The contents with the buffers `b` of scores and column maxima replaced. -/
def St.setSC (S : St F) (b : Bool) (s : Vec F S4x512x256 .f32) (c : Vec F S4x8x256 .f32) : St F :=
  cond b { S with s1 := s, c1 := c } { S with s0 := s, c0 := c }

/-- What an operation leaves. -/
def Op.run : Op → St F → St F
  | .sc b oq hq ok hk h, S =>
    let q : Vec F S128x256 .bf16 := window S.q oq S128x256.size hq
    let k : Vec F S512x128 .bf16 := window S.k ok S512x128.size hk
    S.setSC b (put (S.s b) ![h.val, 0, 0] S1x512x256.size (k0_pay844 q k)) (put (S.c b) ![h.val, 0, 0] S1x8x256.size (k0_pay845 q k))
  | .ac b ov hv om hm oa ha h, S =>
    let v : Vec F S72x512 .f32 := window S.v ov S72x512.size hv
    let m : Vec F S1x1x8x256 .f32 := window S.m om S1x1x8x256.size hm
    let c : Vec F S1x8x256 .f32 := window (S.c b) ![h.val, 0, 0] S1x8x256.size (inb_c h)
    let s : Vec F S1x512x256 .f32 := window (S.s b) ![h.val, 0, 0] S1x512x256.size (inb_s h)
    let a : Vec F S1x1x72x256 .f32 := window S.a oa S1x1x72x256.size ha
    { S with a := put S.a oa S1x1x72x256.size (k0_pay848 v m c s a), m := put S.m om S1x1x8x256.size (k0_pay849 m c) }
  | .fin oa ha ob hb oo _ _, S =>
    let a : Vec F S1x1x128x256 .f32 := window S.a oa S1x1x128x256.size ha
    let b : Vec F S1x1x128x256 .f32 := window S.a ob S1x1x128x256.size hb
    { S with o := put S.o oo S256x128.size (k0_pay840 a b) }
  | .reset om _, S => { S with m := put S.m om S1x4x8x256.size (k0_pay1141 (F := F)) }
  | .init, S => { S with a := put S.a ![0, 0, 0, 0] S2x4x128x256.size (k0_pay1126 (F := F)) }

/-- What a list of operations leaves. -/
def runs : List Op → St F → St F
  | [], S => S
  | p :: ps, S => runs ps (p.run S)

theorem runs_append (xs ys : List Op) (S : St F) : runs (xs ++ ys) S = runs ys (runs xs S) := by
  induction xs generalizing S with
  | nil => rfl
  | cons x xs ih => exact ih _

/-- The buffers hold `S`. -/
def held (c : Dev nD) (R : Refs) (S : St F) : sProp 𝕄 :=
  iprop(owns (c : Thread nD τ) R.q fullShare S.q ∗ owns (c : Thread nD τ) R.k fullShare S.k ∗ owns (c : Thread nD τ) R.v fullShare S.v
    ∗ owns (c : Thread nD τ) R.o fullShare S.o ∗ owns (c : Thread nD τ) R.m fullShare S.m ∗ owns (c : Thread nD τ) R.a fullShare S.a
    ∗ owns (c : Thread nD τ) R.s0 fullShare S.s0 ∗ owns (c : Thread nD τ) R.s1 fullShare S.s1
    ∗ owns (c : Thread nD τ) R.c0 fullShare S.c0 ∗ owns (c : Thread nD τ) R.c1 fullShare S.c1)

/-- A store of a window, folded: the memref owned at the contents with the payload put. -/
theorem owns_put (c : Dev nD) {sp : Space} {s : Shape} {e : EltTy} (M : Memref sig .tc sp s e) (x : s.Idx → Elt F e)
    {off size : Fin s.rank → ℕ} (inb : ∀ a, off a + size a ≤ s.size a) (w : (Rect.unit off size inb).shape.Idx → Elt F e) :
    (M.view.loc (c : Thread nD τ) ↦[M.view.set]{fullShare} M.view.writes (Elt F) (M.view.rep x) [⟨Rect.unit off size inb, w⟩] : sProp 𝕄)
      ⊢ M.view.loc (c : Thread nD τ) ↦[M.view.set]{fullShare} M.view.rep (put x off size w) :=
  pointsTo_rep_of_read _ _ _ _ _ (View.read_writes_rep_unit M.view x inb w rfl)

/-- A load of a window reads the window of the contents. -/
theorem readAt_window {sp : Space} {s : Shape} {e : EltTy} (M : Memref sig .tc sp s e) (x : s.Idx → Elt F e)
    {off size : Fin s.rank → ℕ} (inb : ∀ a, off a + size a ≤ s.size a) :
    M.view.readAt (Elt F) (Rect.unit off size inb).toLoadRect (M.view.rep x) = window x off size inb :=
  View.readAt_rep_unit M.view x inb rfl inb

theorem sc_run (c : Dev nD) (R : Refs) (b : Bool) (oq : Fin 2 → ℕ) (hq : ∀ a, oq a + S128x256.size a ≤ S256x8192.size a)
    (ok : Fin 2 → ℕ) (hk : ∀ a, ok a + S512x128.size a ≤ S8192x256.size a) (h : Fin 4) (S : St F) (K : PUnit → sProp 𝕄) :
    iprop(held c R S ∗ (held c R (Op.run (.sc b oq hq ok hk h) S) -∗ K ⟨⟩))
      ⊢ wp frame (wpE (defs₀ (F := F)) Variants.none c none) Set.univ (scU R b oq hq ok hk h) K := by
  unfold held scU
  simp only [owns_eq_rep]
  cases b
  · iintro ⟨⟨Hq, Hk, Hv, Ho, Hm, Ha, Hs0, Hs1, Hc0, Hc1⟩, HK⟩
    sl_exec
    sl_step
    iapply HK
    simp only [readAt_window]
    dsimp only [Op.run, St.setSC, St.s, St.c, cond]
    isplitl [Hq]; · iexact Hq
    isplitl [Hk]; · iexact Hk
    isplitl [Hv]; · iexact Hv
    isplitl [Ho]; · iexact Ho
    isplitl [Hm]; · iexact Hm
    isplitl [Ha]; · iexact Ha
    isplitl [Hs0]; · iapply owns_put; iexact Hs0
    isplitl [Hs1]; · iexact Hs1
    isplitl [Hc0]; · iapply owns_put; iexact Hc0
    iexact Hc1
  · iintro ⟨⟨Hq, Hk, Hv, Ho, Hm, Ha, Hs0, Hs1, Hc0, Hc1⟩, HK⟩
    sl_exec
    sl_step
    iapply HK
    simp only [readAt_window]
    dsimp only [Op.run, St.setSC, St.s, St.c, cond]
    isplitl [Hq]; · iexact Hq
    isplitl [Hk]; · iexact Hk
    isplitl [Hv]; · iexact Hv
    isplitl [Ho]; · iexact Ho
    isplitl [Hm]; · iexact Hm
    isplitl [Ha]; · iexact Ha
    isplitl [Hs0]; · iexact Hs0
    isplitl [Hs1]; · iapply owns_put; iexact Hs1
    isplitl [Hc0]; · iexact Hc0
    iapply owns_put; iexact Hc1

theorem ac_run (c : Dev nD) (R : Refs) (b : Bool) (ov : Fin 2 → ℕ) (hv : ∀ a, ov a + S72x512.size a ≤ S128x8192.size a)
    (om : Fin 4 → ℕ) (hm : ∀ a, om a + S1x1x8x256.size a ≤ S2x4x8x256.size a)
    (oa : Fin 4 → ℕ) (ha : ∀ a, oa a + S1x1x72x256.size a ≤ S2x4x128x256.size a) (h : Fin 4) (S : St F) (K : PUnit → sProp 𝕄) :
    iprop(held c R S ∗ (held c R (Op.run (.ac b ov hv om hm oa ha h) S) -∗ K ⟨⟩))
      ⊢ wp frame (wpE (defs₀ (F := F)) Variants.none c none) Set.univ (acU R b ov hv om hm oa ha h) K := by
  unfold held acU
  simp only [owns_eq_rep]
  cases b
  · iintro ⟨⟨Hq, Hk, Hv, Ho, Hm, Ha, Hs0, Hs1, Hc0, Hc1⟩, HK⟩
    sl_exec
    sl_step
    iapply HK
    sl_unfold_run_names
    simp only [readAt_window]
    dsimp only [Op.run, St.setSC, St.s, St.c, cond]
    isplitl [Hq]; · iexact Hq
    isplitl [Hk]; · iexact Hk
    isplitl [Hv]; · iexact Hv
    isplitl [Ho]; · iexact Ho
    isplitl [Hm]; · iapply owns_put; iexact Hm
    isplitl [Ha]; · iapply owns_put; iexact Ha
    isplitl [Hs0]; · iexact Hs0
    isplitl [Hs1]; · iexact Hs1
    isplitl [Hc0]; · iexact Hc0
    iexact Hc1
  · iintro ⟨⟨Hq, Hk, Hv, Ho, Hm, Ha, Hs0, Hs1, Hc0, Hc1⟩, HK⟩
    sl_exec
    sl_step
    iapply HK
    sl_unfold_run_names
    simp only [readAt_window]
    dsimp only [Op.run, St.setSC, St.s, St.c, cond]
    isplitl [Hq]; · iexact Hq
    isplitl [Hk]; · iexact Hk
    isplitl [Hv]; · iexact Hv
    isplitl [Ho]; · iexact Ho
    isplitl [Hm]; · iapply owns_put; iexact Hm
    isplitl [Ha]; · iapply owns_put; iexact Ha
    isplitl [Hs0]; · iexact Hs0
    isplitl [Hs1]; · iexact Hs1
    isplitl [Hc0]; · iexact Hc0
    iexact Hc1

theorem fin_run (c : Dev nD) (R : Refs) (oa : Fin 4 → ℕ) (ha : ∀ a, oa a + S1x1x128x256.size a ≤ S2x4x128x256.size a)
    (ob : Fin 4 → ℕ) (hb : ∀ a, ob a + S1x1x128x256.size a ≤ S2x4x128x256.size a)
    (oo : Fin 2 → ℕ) (ho : ∀ a, oo a + S256x128.size a ≤ S8192x256.size a)
    (hp : (Rect.unit (s := S8192x256) oo S256x128.size ho).PackedRows (EltTy.packing .bf16)) (S : St F) (K : PUnit → sProp 𝕄) :
    iprop(held c R S ∗ (held c R (Op.run (.fin oa ha ob hb oo ho hp) S) -∗ K ⟨⟩))
      ⊢ wp frame (wpE (defs₀ (F := F)) Variants.none c none) Set.univ (finU R oa ha ob hb oo ho hp) K := by
  unfold held finU
  simp only [owns_eq_rep]
  iintro ⟨⟨Hq, Hk, Hv, Ho, Hm, Ha, Hs0, Hs1, Hc0, Hc1⟩, HK⟩
  sl_exec
  sl_step
  iapply HK
  simp only [readAt_window]
  dsimp only [Op.run, St.setSC, St.s, St.c, cond]
  isplitl [Hq]; · iexact Hq
  isplitl [Hk]; · iexact Hk
  isplitl [Hv]; · iexact Hv
  isplitl [Ho]; · iapply owns_put; iexact Ho
  isplitl [Hm]; · iexact Hm
  isplitl [Ha]; · iexact Ha
  isplitl [Hs0]; · iexact Hs0
  isplitl [Hs1]; · iexact Hs1
  isplitl [Hc0]; · iexact Hc0
  iexact Hc1

theorem reset_run (c : Dev nD) (R : Refs) (om : Fin 4 → ℕ) (hm : ∀ a, om a + S1x4x8x256.size a ≤ S2x4x8x256.size a) (S : St F) (K : PUnit → sProp 𝕄) :
    iprop(held c R S ∗ (held c R (Op.run (.reset om hm) S) -∗ K ⟨⟩))
      ⊢ wp frame (wpE (defs₀ (F := F)) Variants.none c none) Set.univ (resetU R om hm) K := by
  unfold held resetU
  simp only [owns_eq_rep]
  iintro ⟨⟨Hq, Hk, Hv, Ho, Hm, Ha, Hs0, Hs1, Hc0, Hc1⟩, HK⟩
  sl_exec
  sl_step
  iapply HK
  dsimp only [Op.run, St.setSC, St.s, St.c, cond]
  isplitl [Hq]; · iexact Hq
  isplitl [Hk]; · iexact Hk
  isplitl [Hv]; · iexact Hv
  isplitl [Ho]; · iexact Ho
  isplitl [Hm]; · iapply owns_put; iexact Hm
  isplitl [Ha]; · iexact Ha
  isplitl [Hs0]; · iexact Hs0
  isplitl [Hs1]; · iexact Hs1
  isplitl [Hc0]; · iexact Hc0
  iexact Hc1

theorem init_run (c : Dev nD) (R : Refs) (S : St F) (K : PUnit → sProp 𝕄) :
    iprop(held c R S ∗ (held c R (Op.run .init S) -∗ K ⟨⟩))
      ⊢ wp frame (wpE (defs₀ (F := F)) Variants.none c none) Set.univ (initU R) K := by
  unfold held initU
  simp only [owns_eq_rep]
  iintro ⟨⟨Hq, Hk, Hv, Ho, Hm, Ha, Hs0, Hs1, Hc0, Hc1⟩, HK⟩
  sl_exec
  sl_step
  iapply HK
  dsimp only [Op.run, St.setSC, St.s, St.c, cond]
  isplitl [Hq]; · iexact Hq
  isplitl [Hk]; · iexact Hk
  isplitl [Hv]; · iexact Hv
  isplitl [Ho]; · iexact Ho
  isplitl [Hm]; · iexact Hm
  isplitl [Ha]; · iapply owns_put; iexact Ha
  isplitl [Hs0]; · iexact Hs0
  isplitl [Hs1]; · iexact Hs1
  isplitl [Hc0]; · iexact Hc0
  iexact Hc1

/-- Running an operation's program does what the operation says. -/
theorem op_run (c : Dev nD) (R : Refs) (p : Op) (S : St F) (K : PUnit → sProp 𝕄) :
    iprop(held c R S ∗ (held c R (p.run S) -∗ K ⟨⟩))
      ⊢ wp frame (wpE (defs₀ (F := F)) Variants.none c none) Set.univ (p.prog R) K := by
  cases p with
  | sc b oq hq ok hk h => exact sc_run c R b oq hq ok hk h S K
  | ac b ov hv om hm oa ha h => exact ac_run c R b ov hv om hm oa ha h S K
  | fin oa ha ob hb oo ho hp => exact fin_run c R oa ha ob hb oo ho hp S K
  | reset om hm => exact reset_run c R om hm S K
  | init => exact init_run c R S K

/-- Running a list of operations does what the list says. -/
theorem progs_run (c : Dev nD) (R : Refs) (ps : List Op) (S : St F) (K : PUnit → sProp 𝕄) :
    iprop(held c R S ∗ (held c R (runs ps S) -∗ K ⟨⟩))
      ⊢ wp frame (wpE (defs₀ (F := F)) Variants.none c none) Set.univ (progs R ps) K := by
  induction ps generalizing S with
  | nil =>
    iintro ⟨H, HK⟩
    unfold progs runs
    sl_step
    iapply HK
    iexact H
  | cons p ps ih =>
    unfold progs runs
    rw [wp_bind]
    iintro ⟨H, HK⟩
    iapply (op_run c R p S _)
    isplitl [H]; · iexact H
    iintro H
    iapply (ih (p.run S))
    isplitl [H]; · iexact H
    iexact HK

end Cert.KernelIdeal.Attn
-- ==== Proof.Launch.lean ====
module

public import proofs.«01_k».proof.Proof.Run
public import proofs.«01_k».proof.Proof.Gen.KernelIdeal.Points
public import Idealize.ShloMosaic.Lib.Pipeline.Frame

/-! The kernel's launch: what its output array holds after the run, at any value instance. -/

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem op_run_q (p : Op) (S : St F) : (p.run S).q = S.q := by
  cases p with
  | sc b => cases b <;> rfl
  | _ => rfl
theorem op_run_k (p : Op) (S : St F) : (p.run S).k = S.k := by
  cases p with
  | sc b => cases b <;> rfl
  | _ => rfl
theorem op_run_v (p : Op) (S : St F) : (p.run S).v = S.v := by
  cases p with
  | sc b => cases b <;> rfl
  | _ => rfl

/-- No operation touches the inputs. -/
theorem runs_q (ps : List Op) (S : St F) : (runs ps S).q = S.q := by
  induction ps generalizing S with
  | nil => rfl
  | cons p ps ih => exact (ih _).trans (op_run_q p S)
theorem runs_k (ps : List Op) (S : St F) : (runs ps S).k = S.k := by
  induction ps generalizing S with
  | nil => rfl
  | cons p ps ih => exact (ih _).trans (op_run_k p S)
theorem runs_v (ps : List Op) (S : St F) : (runs ps S).v = S.v := by
  induction ps generalizing S with
  | nil => rfl
  | cons p ps ih => exact (ih _).trans (op_run_v p S)

/-- The buffers the body is handed at point `t`. -/
def refs (t : Fin cfg0.N) : Refs where
  q := win0_0.stage (cfg0.slots t 0)
  hq := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  o := win0_3.stage (cfg0.slots t 3)
  ho := hstage0_3 ((cfg0.slots t 3).cast nbuf0_3)
  m := Memref.whole cc0_scratch0
  hm := Memref.isWhole_whole _
  a := Memref.whole cc0_scratch1
  ha := Memref.isWhole_whole _
  s0 := Memref.whole cc0_scratch2
  hs0 := Memref.isWhole_whole _
  s1 := Memref.whole cc0_scratch3
  hs1 := Memref.isWhole_whole _
  c0 := Memref.whole cc0_scratch4
  hc0 := Memref.isWhole_whole _
  c1 := Memref.whole cc0_scratch5
  hc1 := Memref.isWhole_whole _

theorem bodyAt0_eq (t : Fin cfg0.N) : bodyAt0 (F := F) t = progs (refs t) allOps :=
  attention_eq (refs t) (grid0.coords t)

/-- `X` is what the body leaves in the output block when it reads the blocks `q`, `k`, `v`. -/
def Leaves (q : Vec F S256x8192 .bf16) (k : Vec F S8192x256 .bf16) (v : Vec F S128x8192 .f32) (X : Vec F S8192x256 .bf16) : Prop :=
  ∃ S : St F, S.q = q ∧ S.k = k ∧ S.v = v ∧ X = (runs allOps S).o

/-- What a window's buffer may hold after the body: an input its block, the output what the body leaves. -/
def left (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, t, _, X => Leaves (F := F) (iblk m c 0 t) (iblk m c 1 t) (iblk m c 2 t) X
  | ⟨_ + 4, h⟩, _, _, _ => absurd h (Nat.not_lt.2 (Nat.le_add_left _ _))

/-- The proof data on core `c`. -/
def rdat (c : Dev nD) : RDat τ (Elt F) Unit ℕ (UR sig nD τ) ℕ cfg0 c where
  A w := V m c (Pipeline.arrRef spec0 w)
  after := left m c
  Φ _ := Pipeline.ΦA spec0 c
  q _ := fullShare
  owed _ := 0

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA
  rw [scopedRest0_eq]; simp only [owns_whole]; try rfl

theorem finds0 (c : Dev nD) (t : Fin cfg0.N) (Y) (h : (rdat m c).Finds 0 t Y) : Y = iblk m c 0 t := by
  obtain ⟨d, rfl⟩ := ((rdat m c).finds_of_fetch (fetch0_0 t) Y).1 h
  rfl
theorem finds1 (c : Dev nD) (t : Fin cfg0.N) (Y) (h : (rdat m c).Finds 1 t Y) : Y = iblk m c 1 t := by
  obtain ⟨d, rfl⟩ := ((rdat m c).finds_of_fetch (fetch0_1 t) Y).1 h
  rfl
theorem finds2 (c : Dev nD) (t : Fin cfg0.N) (Y) (h : (rdat m c).Finds 2 t Y) : Y = iblk m c 2 t := by
  obtain ⟨d, rfl⟩ := ((rdat m c).finds_of_fetch (fetch0_2 t) Y).1 h
  rfl

/-- The body at a point: from the blocks to the blocks and what the operations leave in the output. -/
theorem sound_body (c : Dev nD) (t : Fin cfg0.N) (Y3 : Vec F S8192x256 .bf16) :
    iprop((rdat m c).Φ t.castSucc ∗ (rdat m c).owesAt () t.castSucc
        ∗ owns (c : Thread nD τ) (refs t).q fullShare (iblk m c 0 t) ∗ owns (c : Thread nD τ) (refs t).k fullShare (iblk m c 1 t)
        ∗ owns (c : Thread nD τ) (refs t).v fullShare (iblk m c 2 t) ∗ owns (c : Thread nD τ) (refs t).o fullShare Y3)
      ⊢ wp frame (wpE (defs₀ (F := F)) Variants.none c none) Set.univ (bodyAt0 t) fun _ =>
        iprop((rdat m c).Φ t.castSucc ∗ (rdat m c).owesAt () t.castSucc
        ∗ (∃ X, ⌜X = iblk m c 0 t⌝ ∗ owns (c : Thread nD τ) (refs t).q fullShare X) ∗ (∃ X, ⌜X = iblk m c 1 t⌝ ∗ owns (c : Thread nD τ) (refs t).k fullShare X)
        ∗ (∃ X, ⌜X = iblk m c 2 t⌝ ∗ owns (c : Thread nD τ) (refs t).v fullShare X)
        ∗ ∃ X, ⌜Leaves (F := F) (iblk m c 0 t) (iblk m c 1 t) (iblk m c 2 t) X⌝ ∗ owns (c : Thread nD τ) (refs t).o fullShare X) := by
  rw [bodyAt0_eq, show (rdat m c).Φ t.castSucc = Pipeline.ΦA spec0 c from rfl, PhiA0_eq]
  iintro ⟨⟨⟨⟨%d0, H0⟩, ⟨%d1, H1⟩, ⟨%d2, H2⟩, ⟨%d3, H3⟩, ⟨%d4, H4⟩, ⟨%d5, H5⟩⟩, Hg⟩, HO, Hq, Hk, Hv, Ho⟩
  iapply (progs_run c (refs t) allOps ⟨iblk m c 0 t, iblk m c 1 t, iblk m c 2 t, Y3, d0, d1, d2, d3, d4, d5⟩ _)
  isplitl [H0 H1 H2 H3 H4 H5 Hq Hk Hv Ho]
  · unfold held
    isplitl [Hq]; · iexact Hq
    isplitl [Hk]; · iexact Hk
    isplitl [Hv]; · iexact Hv
    isplitl [Ho]; · iexact Ho
    isplitl [H0]; · iexact H0
    isplitl [H1]; · iexact H1
    isplitl [H2]; · iexact H2
    isplitl [H3]; · iexact H3
    isplitl [H4]; · iexact H4
    iexact H5
  unfold held
  rw [runs_q, runs_k, runs_v]
  iintro ⟨Hq, Hk, Hv, Ho, H0, H1, H2, H3, H4, H5⟩
  isplitl [H0 H1 H2 H3 H4 H5 Hg]
  · isplitl [H0 H1 H2 H3 H4 H5]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    iexact Hg
  isplitl [HO]; · iexact HO
  isplitl [Hq]
  · iexists _; isplitr; swap; · iexact Hq
    ipureintro; rfl
  isplitl [Hk]
  · iexists _; isplitr; swap; · iexact Hk
    ipureintro; rfl
  isplitl [Hv]
  · iexists _; isplitr; swap; · iexact Hv
    ipureintro; rfl
  iexists _; isplitr; swap; · iexact Ho
  ipureintro; exact ⟨_, rfl, rfl, rfl, rfl⟩

/-- The body table's row at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  have h0 := finds0 m c t _ (hY 0)
  have h1 := finds1 m c t _ (hY 1)
  have h2 := finds2 m c t _ (hY 2)
  rw [bigSep_W0, bigSep_W0, defs₀_row, h0, h1, h2]
  exact sound_body m c t (Y 3)

set_option backward.isDefEq.respectTransparency.types false in
/-- Every weakly fair execution of @main terminates with every array and every counter as said. -/
theorem run_main :
    θ_run defs (onTc (τ := τ) (main (F := F))) (s₀ m ρ)
      (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := fun c => body_obligation m c) (hshare := fun c w => by unfold RDat.share rdat; exact ite_self _)
    (howed := fun _ _ => rfl) (V := V m) (hmain := hmain m Variants.none) (hA := fun _ _ => rfl)
    (hΦ := fun _ _ => rfl)

variable {m}

/-- The arguments are never written. -/
theorem args_kept {r : PUnit × MemSt nD τ sig (Elt F)} (h : RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The run at any value instance, from any memory: it ends, the arguments and the counters as they were. -/
theorem quiescent (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept h.1 c, h.2⟩) (run_main m ρ)

end Cert.KernelIdeal.Attn

end
-- ==== Proof.FrameBits.lean ====
module

public import proofs.«01_k».proof.Proof.Launch
public import proofs.«01_k».proof.Proof.Gen.Kernel
public import proofs.«01_k».proof.Defs

/-! The kernel as compiled runs: it is the idealized program read at the bit patterns. -/

@[expose] public section

noncomputable section

namespace Cert.Kernel.Attn

open Idealize.ShloMosaic Idealize.ShloMosaic.TcCoe

/-- At the bit patterns a named constant is the pattern it names. -/
local instance namedBits : Named Bits where
  named _ _ {_} bits := Scalar.ofBits _ bits

set_option maxRecDepth 100000

/-- The two bodies are one program. -/
theorem attention_eq : @Cert.Kernel.cc0_attention Bits _ _ = @Cert.KernelIdeal.cc0_attention Bits _ _ _ := rfl

/-- The two body tables are one. -/
theorem defs₀_eq : Cert.Kernel.defs₀ (F := Bits) = Cert.KernelIdeal.defs₀ (F := Bits) := by
  unfold Cert.Kernel.defs₀ Cert.KernelIdeal.defs₀
  congr 1
  funext l x
  match l with
  | 0 =>
    exact congrFun rfl _
  | ⟨_ + 1, h⟩ => exact absurd h (Nat.not_lt.2 (Nat.le_add_left _ _))

/-- The two programs are one. -/
theorem defs_eq : Cert.Kernel.defs (F := Bits) = Cert.KernelIdeal.defs (F := Bits) := by
  unfold Cert.Kernel.defs
  rw [defs₀_eq]
  rfl
theorem main_eq : Cert.Kernel.main (F := Bits) = Cert.KernelIdeal.main (F := Bits) := rfl

/-- The compiled kernel ends, its arguments and the counters as they were. -/
theorem quiescent : Cert.quiescent_Kernel := fun m g _ => by
  rw [defs_eq, main_eq]
  exact Cert.KernelIdeal.Attn.quiescent (F := Bits) m g

end Cert.Kernel.Attn

end
-- ==== Proof.Read.lean ====
module

public import Idealize.ShloMosaic.Lib.VecWindow
public import Idealize.ShloMosaic.Lib.Pointwise

/-! Reading an array at natural-number coordinates, and what a window and a store do to such a read. -/

@[expose] public section

noncomputable section

namespace Cert.Attn

open Idealize.ShloMosaic Idealize.ShloMosaic.VecWindow

/-- The element at the coordinates `n`, zero outside the array. -/
def rd {s : Shape} (x : s.Idx → EReal) (n : Fin s.rank → ℕ) : EReal :=
  if h : ∀ a, n a < s.size a then x (fun a => ⟨n a, h a⟩) else 0

theorem rd_of_lt {s : Shape} (x : s.Idx → EReal) (n : Fin s.rank → ℕ) (h : ∀ a, n a < s.size a) :
    rd x n = x (fun a => ⟨n a, h a⟩) := dif_pos h

/-- A read at the coordinates of an index. -/
theorem rd_idx {s : Shape} (x : s.Idx → EReal) (i : s.Idx) : rd x (fun a => (i a).val) = x i :=
  rd_of_lt x _ fun a => (i a).isLt

/-- A window read at `n` is the array read at `n` shifted by the offsets. -/
theorem rd_window {s : Shape} (x : s.Idx → EReal) (off size : Fin s.rank → ℕ) (inb : ∀ a, off a + size a ≤ s.size a)
    (n : Fin s.rank → ℕ) (hn : ∀ a, n a < size a) :
    rd (s := ⟨s.rank, size⟩) (window x off size inb) n = rd x (fun a => off a + n a) := by
  rw [rd_of_lt (s := ⟨s.rank, size⟩) _ _ hn, rd_of_lt x _ fun a => lt_of_lt_of_le (Nat.add_lt_add_left (hn a) _) (inb a)]
  exact congrArg x (funext fun a => Fin.ext (by show off a + 1 * n a = off a + n a; rw [one_mul]))

/-- A store read inside its window. -/
theorem rd_put_in {s : Shape} (x : s.Idx → EReal) (off size : Fin s.rank → ℕ) (w : ((a : Fin s.rank) → Fin (size a)) → EReal)
    (n : Fin s.rank → ℕ) (hn : ∀ a, n a < size a) (hs : ∀ a, off a + n a < s.size a) :
    rd (put x off size w) (fun a => off a + n a) = rd (s := ⟨s.rank, size⟩) w n := by
  rw [rd_of_lt _ _ hs, rd_of_lt (s := ⟨s.rank, size⟩) _ _ hn]
  unfold put
  rw [dif_pos (fun a => ⟨Nat.le_add_right _ _, Nat.add_lt_add_left (hn a) _⟩)]
  exact congrArg w (funext fun a => Fin.ext (by show off a + n a - off a = n a; omega))

/-- A store read outside its window. -/
theorem rd_put_out {s : Shape} (x : s.Idx → EReal) (off size : Fin s.rank → ℕ) (w : ((a : Fin s.rank) → Fin (size a)) → EReal)
    (n : Fin s.rank → ℕ) (a : Fin s.rank) (ha : n a < off a ∨ off a + size a ≤ n a) :
    rd (put x off size w) n = rd x n := by
  by_cases h : ∀ a, n a < s.size a
  · rw [rd_of_lt _ _ h, rd_of_lt _ _ h]
    unfold put
    rw [dif_neg]
    intro hh
    have h1 := hh a
    have h2 : n a = ((fun a => ⟨n a, h a⟩ : s.Idx) a).val := rfl
    omega
  · unfold rd; rw [dif_neg h, dif_neg h]

section Ranks
variable {n0 n1 n2 n3 : ℕ}

theorem rd2 (x : (⟨2, ![n0, n1]⟩ : Shape).Idx → EReal) (a : Fin n0) (b : Fin n1) : rd x ![a.val, b.val] = x (ix2 a b) := by
  rw [← rd_idx x (ix2 a b)]; refine congrArg (rd x) (funext fun d => ?_); match d with | ⟨0, _⟩ => rfl | ⟨1, _⟩ => rfl
theorem rd3 (x : (⟨3, ![n0, n1, n2]⟩ : Shape).Idx → EReal) (a : Fin n0) (b : Fin n1) (c : Fin n2) :
    rd x ![a.val, b.val, c.val] = x (ix3 a b c) := by
  rw [← rd_idx x (ix3 a b c)]; refine congrArg (rd x) (funext fun d => ?_)
  match d with | ⟨0, _⟩ => rfl | ⟨1, _⟩ => rfl | ⟨2, _⟩ => rfl
theorem rd4 (x : (⟨4, ![n0, n1, n2, n3]⟩ : Shape).Idx → EReal) (a : Fin n0) (b : Fin n1) (c : Fin n2) (d : Fin n3) :
    rd x ![a.val, b.val, c.val, d.val] = x (ix4 a b c d) := by
  rw [← rd_idx x (ix4 a b c d)]; refine congrArg (rd x) (funext fun d => ?_)
  match d with | ⟨0, _⟩ => rfl | ⟨1, _⟩ => rfl | ⟨2, _⟩ => rfl | ⟨3, _⟩ => rfl

/-! The same with the coordinates listed. -/

theorem window2 (x : (⟨2, ![n0, n1]⟩ : Shape).Idx → EReal) {o0 o1 z0 z1 : ℕ} (inb) {i0 i1 : ℕ} (p0 p1 : ℕ)
    (h : i0 < z0 ∧ i1 < z1) (hp : p0 = o0 + i0 ∧ p1 = o1 + i1) :
    rd (s := ⟨2, ![z0, z1]⟩) (window x ![o0, o1] ![z0, z1] inb) ![i0, i1] = rd x ![p0, p1] := by
  obtain ⟨rfl, rfl⟩ := hp
  refine (rd_window x ![o0, o1] ![z0, z1] inb ![i0, i1] (fun a => ?_)).trans (congrArg (rd x) (funext fun a => ?_))
  · match a with | ⟨0, _⟩ => exact h.1 | ⟨1, _⟩ => exact h.2
  · match a with | ⟨0, _⟩ => rfl | ⟨1, _⟩ => rfl

theorem window3 (x : (⟨3, ![n0, n1, n2]⟩ : Shape).Idx → EReal) {o0 o1 o2 z0 z1 z2 : ℕ} (inb) {i0 i1 i2 : ℕ} (p0 p1 p2 : ℕ)
    (h : i0 < z0 ∧ i1 < z1 ∧ i2 < z2) (hp : p0 = o0 + i0 ∧ p1 = o1 + i1 ∧ p2 = o2 + i2) :
    rd (s := ⟨3, ![z0, z1, z2]⟩) (window x ![o0, o1, o2] ![z0, z1, z2] inb) ![i0, i1, i2] = rd x ![p0, p1, p2] := by
  obtain ⟨rfl, rfl, rfl⟩ := hp
  refine (rd_window x ![o0, o1, o2] ![z0, z1, z2] inb ![i0, i1, i2] (fun a => ?_)).trans (congrArg (rd x) (funext fun a => ?_))
  · match a with | ⟨0, _⟩ => exact h.1 | ⟨1, _⟩ => exact h.2.1 | ⟨2, _⟩ => exact h.2.2
  · match a with | ⟨0, _⟩ => rfl | ⟨1, _⟩ => rfl | ⟨2, _⟩ => rfl

theorem window4 (x : (⟨4, ![n0, n1, n2, n3]⟩ : Shape).Idx → EReal) {o0 o1 o2 o3 z0 z1 z2 z3 : ℕ} (inb) {i0 i1 i2 i3 : ℕ}
    (p0 p1 p2 p3 : ℕ) (h : i0 < z0 ∧ i1 < z1 ∧ i2 < z2 ∧ i3 < z3)
    (hp : p0 = o0 + i0 ∧ p1 = o1 + i1 ∧ p2 = o2 + i2 ∧ p3 = o3 + i3) :
    rd (s := ⟨4, ![z0, z1, z2, z3]⟩) (window x ![o0, o1, o2, o3] ![z0, z1, z2, z3] inb) ![i0, i1, i2, i3] = rd x ![p0, p1, p2, p3] := by
  obtain ⟨rfl, rfl, rfl, rfl⟩ := hp
  refine (rd_window x ![o0, o1, o2, o3] ![z0, z1, z2, z3] inb ![i0, i1, i2, i3] (fun a => ?_)).trans
    (congrArg (rd x) (funext fun a => ?_))
  · match a with | ⟨0, _⟩ => exact h.1 | ⟨1, _⟩ => exact h.2.1 | ⟨2, _⟩ => exact h.2.2.1 | ⟨3, _⟩ => exact h.2.2.2
  · match a with | ⟨0, _⟩ => rfl | ⟨1, _⟩ => rfl | ⟨2, _⟩ => rfl | ⟨3, _⟩ => rfl

theorem put2 (x : (⟨2, ![n0, n1]⟩ : Shape).Idx → EReal) {o0 o1 z0 z1 : ℕ} (w : (⟨2, ![z0, z1]⟩ : Shape).Idx → EReal)
    {p0 p1 : ℕ} (i0 i1 : ℕ) (h : i0 < z0 ∧ i1 < z1) (hs : p0 < n0 ∧ p1 < n1) (hp : p0 = o0 + i0 ∧ p1 = o1 + i1) :
    rd (put x ![o0, o1] ![z0, z1] w) ![p0, p1] = rd w ![i0, i1] := by
  obtain ⟨rfl, rfl⟩ := hp
  refine (congrArg (rd _) (funext fun a => ?_)).trans (rd_put_in x ![o0, o1] ![z0, z1] w ![i0, i1] (fun a => ?_) (fun a => ?_))
  · match a with | ⟨0, _⟩ => rfl | ⟨1, _⟩ => rfl
  · match a with | ⟨0, _⟩ => exact h.1 | ⟨1, _⟩ => exact h.2
  · match a with | ⟨0, _⟩ => exact hs.1 | ⟨1, _⟩ => exact hs.2

theorem put3 (x : (⟨3, ![n0, n1, n2]⟩ : Shape).Idx → EReal) {o0 o1 o2 z0 z1 z2 : ℕ} (w : (⟨3, ![z0, z1, z2]⟩ : Shape).Idx → EReal)
    {p0 p1 p2 : ℕ} (i0 i1 i2 : ℕ) (h : i0 < z0 ∧ i1 < z1 ∧ i2 < z2) (hs : p0 < n0 ∧ p1 < n1 ∧ p2 < n2)
    (hp : p0 = o0 + i0 ∧ p1 = o1 + i1 ∧ p2 = o2 + i2) :
    rd (put x ![o0, o1, o2] ![z0, z1, z2] w) ![p0, p1, p2] = rd w ![i0, i1, i2] := by
  obtain ⟨rfl, rfl, rfl⟩ := hp
  refine (congrArg (rd _) (funext fun a => ?_)).trans
    (rd_put_in x ![o0, o1, o2] ![z0, z1, z2] w ![i0, i1, i2] (fun a => ?_) (fun a => ?_))
  · match a with | ⟨0, _⟩ => rfl | ⟨1, _⟩ => rfl | ⟨2, _⟩ => rfl
  · match a with | ⟨0, _⟩ => exact h.1 | ⟨1, _⟩ => exact h.2.1 | ⟨2, _⟩ => exact h.2.2
  · match a with | ⟨0, _⟩ => exact hs.1 | ⟨1, _⟩ => exact hs.2.1 | ⟨2, _⟩ => exact hs.2.2

theorem put4 (x : (⟨4, ![n0, n1, n2, n3]⟩ : Shape).Idx → EReal) {o0 o1 o2 o3 z0 z1 z2 z3 : ℕ}
    (w : (⟨4, ![z0, z1, z2, z3]⟩ : Shape).Idx → EReal) {p0 p1 p2 p3 : ℕ} (i0 i1 i2 i3 : ℕ)
    (h : i0 < z0 ∧ i1 < z1 ∧ i2 < z2 ∧ i3 < z3) (hs : p0 < n0 ∧ p1 < n1 ∧ p2 < n2 ∧ p3 < n3)
    (hp : p0 = o0 + i0 ∧ p1 = o1 + i1 ∧ p2 = o2 + i2 ∧ p3 = o3 + i3) :
    rd (put x ![o0, o1, o2, o3] ![z0, z1, z2, z3] w) ![p0, p1, p2, p3] = rd w ![i0, i1, i2, i3] := by
  obtain ⟨rfl, rfl, rfl, rfl⟩ := hp
  refine (congrArg (rd _) (funext fun a => ?_)).trans
    (rd_put_in x ![o0, o1, o2, o3] ![z0, z1, z2, z3] w ![i0, i1, i2, i3] (fun a => ?_) (fun a => ?_))
  · match a with | ⟨0, _⟩ => rfl | ⟨1, _⟩ => rfl | ⟨2, _⟩ => rfl | ⟨3, _⟩ => rfl
  · match a with | ⟨0, _⟩ => exact h.1 | ⟨1, _⟩ => exact h.2.1 | ⟨2, _⟩ => exact h.2.2.1 | ⟨3, _⟩ => exact h.2.2.2
  · match a with | ⟨0, _⟩ => exact hs.1 | ⟨1, _⟩ => exact hs.2.1 | ⟨2, _⟩ => exact hs.2.2.1 | ⟨3, _⟩ => exact hs.2.2.2

end Ranks

end Cert.Attn
-- ==== Proof.Payload.lean ====
module

public import proofs.«01_k».proof.Proof.Read
public import proofs.«01_k».proof.Proof.Gen.KernelIdeal.Skeleton

/-! The kernel's payloads at the extended reals, element by element. -/

@[expose] public section

noncomputable section

namespace Cert.KernelIdeal.Attn

open Cert.KernelIdeal Cert.KernelIdeal.Gen Cert.Attn
open Idealize.ShloMosaic

theorem negInf_eq : Ideal.ofBits FTy.f32 4286578688#32 = ⊥ := by simp [Ideal.ofBits, Ideal.ieee]

theorem score_at (q : Vec Ideal S128x256 .bf16) (k : Vec Ideal S512x128 .bf16) (r : Fin 512) (j : Fin 256) :
    k0_pay843 (F := Ideal) q k (ix2 r j) = ∑ l : Fin 128, k (ix2 r l) * q (ix2 l j) := by
  pointwise [k0_pay843]

theorem pay844_at (q : Vec Ideal S128x256 .bf16) (k : Vec Ideal S512x128 .bf16) (r : Fin 512) (j : Fin 256) :
    k0_pay844 (F := Ideal) q k (ix3 0 r j) = k0_pay843 (F := Ideal) q k (ix2 r j) := by
  pointwise [k0_pay844]

theorem pay845_at (q : Vec Ideal S128x256 .bf16) (k : Vec Ideal S512x128 .bf16) (i : Fin 8) (j : Fin 256) :
    k0_pay845 (F := Ideal) q k (ix3 0 i j) = Finset.univ.fold max ⊥ fun r : Fin 512 => k0_pay843 (F := Ideal) q k (ix2 r j) := by
  pointwise [k0_pay845]
  rw [negInf_eq]

theorem pay849_at (m : Vec Ideal S1x1x8x256 .f32) (c : Vec Ideal S1x8x256 .f32) (i : Fin 8) (j : Fin 256) :
    k0_pay849 (F := Ideal) m c (ix4 0 0 i j) = max (m (ix4 0 0 i j)) (c (ix3 0 i j)) := by
  pointwise [k0_pay849, k0_pay847, k0_pay846]

theorem pay848_at (v : Vec Ideal S72x512 .f32) (m : Vec Ideal S1x1x8x256 .f32) (c : Vec Ideal S1x8x256 .f32)
    (s : Vec Ideal S1x512x256 .f32) (a : Vec Ideal S1x1x72x256 .f32) (d : Fin 72) (j : Fin 256) :
    k0_pay848 (F := Ideal) v m c s a (ix4 0 0 d j) =
      a (ix4 0 0 d j) * Ideal.exp2 (m (ix4 0 0 0 j) - max (m (ix4 0 0 0 j)) (c (ix3 0 0 j)))
        + ∑ r : Fin 512, v (ix2 d r) * Ideal.exp2 (s (ix3 0 r j) - max (m (ix4 0 0 0 j)) (c (ix3 0 0 j))) := by
  pointwise [k0_pay848, k0_pay847, k0_pay846]
  rfl

/-- The lane mask that joins two heads' results. -/
theorem lane_mask (l : Fin 128) : IntOp.cmpi CmpIPredicate.slt (BitVec.ofNat 32 l.val) 64#32 = if l.val < 64 then 1#1 else 0#1 := by
  revert l; decide +kernel

theorem pay840_at (a b : Vec Ideal S1x1x128x256 .f32) (r : Fin 256) (l : Fin 128) :
    k0_pay840 (F := Ideal) a b (ix2 r l) =
      if l.val < 64 then a (ix4 0 0 l r) * Ideal.div 1 (a (ix4 0 0 64 r))
      else b (ix4 0 0 ⟨(l.val + 128 - 64) % 128, Nat.mod_lt _ (by decide)⟩ r) * Ideal.div 1 (b (ix4 0 0 64 r)) := by
  pointwise [k0_pay840]
  rw [lane_mask]
  split <;> simp [Scalar.select]

theorem pay1141_at (h : Fin 4) (i : Fin 8) (j : Fin 256) : k0_pay1141 (F := Ideal) (ix4 0 h i j) = ⊥ := by
  pointwise [k0_pay1141]
  exact IdealRules.named_const.ideal_named_scalar _ _ _ _ rfl

/-! The same at natural-number coordinates. -/

variable {i j r d h : ℕ}

theorem pay844_rd (q : Vec Ideal S128x256 .bf16) (k : Vec Ideal S512x128 .bf16) (hr : r < 512) (hj : j < 256) :
    rd (s := S1x512x256) (k0_pay844 (F := Ideal) q k) ![0, r, j]
      = ∑ l ∈ Finset.range 128, rd (s := S512x128) k ![r, l] * rd (s := S128x256) q ![l, j] := by
  refine (rd3 (n0 := 1) (n1 := 512) (n2 := 256) _ 0 ⟨r, hr⟩ ⟨j, hj⟩).trans ?_
  rw [pay844_at, score_at, Finset.sum_range]
  exact Finset.sum_congr rfl fun l _ => congrArg₂ (· * ·) (rd2 (n0 := 512) (n1 := 128) k ⟨r, hr⟩ l).symm
    (rd2 (n0 := 128) (n1 := 256) q l ⟨j, hj⟩).symm

/-- The column maxima of real scores are real, and every row of the payload holds them. -/
theorem pay845_rd (q : Vec Ideal S128x256 .bf16) (k : Vec Ideal S512x128 .bf16) (f : ℕ → ℕ → ℝ)
    (hf : ∀ r < 512, ∀ j < 256, rd (s := S1x512x256) (k0_pay844 (F := Ideal) q k) ![0, r, j] = (f r j : EReal)) :
    ∃ γ : ℕ → ℝ, ∀ i < 8, ∀ j < 256, rd (s := S1x8x256) (k0_pay845 (F := Ideal) q k) ![0, i, j] = (γ j : EReal) := by
  have key : ∀ j < 256, ∀ i < 8, rd (s := S1x8x256) (k0_pay845 (F := Ideal) q k) ![0, i, j]
      = Finset.univ.fold max ⊥ fun r : Fin 512 => (f r j : EReal) := by
    intro j hj i hi
    refine (rd3 (n0 := 1) (n1 := 8) (n2 := 256) _ 0 ⟨i, hi⟩ ⟨j, hj⟩).trans ?_
    rw [pay845_at]
    refine congrArg (fun g => Finset.fold max ⊥ g Finset.univ) (funext fun r => ?_)
    rw [← pay844_at]
    exact (rd3 (n0 := 1) (n1 := 512) (n2 := 256) _ 0 r ⟨j, hj⟩).symm.trans (hf r r.isLt j hj)
  refine ⟨fun j => (Finset.univ.fold max ⊥ fun r : Fin 512 => (f r j : EReal)).toReal, fun i hi j hj => ?_⟩
  rw [key j hj i hi, EReal.coe_toReal]
  · exact ((Finset.fold_max_lt _).2 ⟨bot_lt_top, fun r _ => EReal.coe_lt_top _⟩).ne
  · exact ((Finset.lt_fold_max _).2 (.inr ⟨(0 : Fin 512), Finset.mem_univ _, EReal.bot_lt_coe _⟩)).ne'

theorem pay849_rd (m : Vec Ideal S1x1x8x256 .f32) (c : Vec Ideal S1x8x256 .f32) (hi : i < 8) (hj : j < 256) :
    rd (s := S1x1x8x256) (k0_pay849 (F := Ideal) m c) ![0, 0, i, j]
      = max (rd (s := S1x1x8x256) m ![0, 0, i, j]) (rd (s := S1x8x256) c ![0, i, j]) := by
  refine (rd4 (n0 := 1) (n1 := 1) (n2 := 8) (n3 := 256) _ 0 0 ⟨i, hi⟩ ⟨j, hj⟩).trans ?_
  rw [pay849_at]
  exact congrArg₂ max (rd4 (n0 := 1) (n1 := 1) (n2 := 8) (n3 := 256) m 0 0 ⟨i, hi⟩ ⟨j, hj⟩).symm
    (rd3 (n0 := 1) (n1 := 8) (n2 := 256) c 0 ⟨i, hi⟩ ⟨j, hj⟩).symm

theorem pay848_rd (v : Vec Ideal S72x512 .f32) (m : Vec Ideal S1x1x8x256 .f32) (c : Vec Ideal S1x8x256 .f32)
    (s : Vec Ideal S1x512x256 .f32) (a : Vec Ideal S1x1x72x256 .f32) (hd : d < 72) (hj : j < 256) :
    rd (s := S1x1x72x256) (k0_pay848 (F := Ideal) v m c s a) ![0, 0, d, j] =
      rd (s := S1x1x72x256) a ![0, 0, d, j] * Ideal.exp2 (rd (s := S1x1x8x256) m ![0, 0, 0, j]
          - max (rd (s := S1x1x8x256) m ![0, 0, 0, j]) (rd (s := S1x8x256) c ![0, 0, j]))
        + ∑ r ∈ Finset.range 512, rd (s := S72x512) v ![d, r] * Ideal.exp2 (rd (s := S1x512x256) s ![0, r, j]
          - max (rd (s := S1x1x8x256) m ![0, 0, 0, j]) (rd (s := S1x8x256) c ![0, 0, j])) := by
  refine (rd4 (n0 := 1) (n1 := 1) (n2 := 72) (n3 := 256) _ 0 0 ⟨d, hd⟩ ⟨j, hj⟩).trans ?_
  have em : rd (s := S1x1x8x256) m ![0, 0, 0, j] = m (ix4 0 0 0 ⟨j, hj⟩) := rd4 (n0 := 1) (n1 := 1) (n2 := 8) (n3 := 256) m 0 0 0 ⟨j, hj⟩
  have ec : rd (s := S1x8x256) c ![0, 0, j] = c (ix3 0 0 ⟨j, hj⟩) := rd3 (n0 := 1) (n1 := 8) (n2 := 256) c 0 0 ⟨j, hj⟩
  have ea : rd (s := S1x1x72x256) a ![0, 0, d, j] = a (ix4 0 0 ⟨d, hd⟩ ⟨j, hj⟩) :=
    rd4 (n0 := 1) (n1 := 1) (n2 := 72) (n3 := 256) a 0 0 ⟨d, hd⟩ ⟨j, hj⟩
  rw [pay848_at, em, ec, ea, Finset.sum_range]
  refine congrArg₂ (· + ·) rfl (Finset.sum_congr rfl fun r _ => ?_)
  have es : rd (s := S1x512x256) s ![0, r.val, j] = s (ix3 0 r ⟨j, hj⟩) := rd3 (n0 := 1) (n1 := 512) (n2 := 256) s 0 r ⟨j, hj⟩
  have ev : rd (s := S72x512) v ![d, r.val] = v (ix2 ⟨d, hd⟩ r) := rd2 (n0 := 72) (n1 := 512) v ⟨d, hd⟩ r
  rw [es, ev]

/-- The first 64 lanes of a finished block are the first head … -/
theorem pay840_rd_lo (a b : Vec Ideal S1x1x128x256 .f32) (hr : r < 256) (hd : d < 64) :
    rd (s := S256x128) (k0_pay840 (F := Ideal) a b) ![r, d] =
      rd (s := S1x1x128x256) a ![0, 0, d, r] * Ideal.div 1 (rd (s := S1x1x128x256) a ![0, 0, 64, r]) := by
  refine (rd2 (n0 := 256) (n1 := 128) _ ⟨r, hr⟩ ⟨d, by omega⟩).trans ?_
  rw [pay840_at, if_pos hd]
  exact congrArg₂ (fun x y => x * Ideal.div 1 y) (rd4 (n0 := 1) (n1 := 1) (n2 := 128) (n3 := 256) a 0 0 ⟨d, by omega⟩ ⟨r, hr⟩).symm
    (rd4 (n0 := 1) (n1 := 1) (n2 := 128) (n3 := 256) a 0 0 64 ⟨r, hr⟩).symm

/-- … and the last 64 the second. -/
theorem pay840_rd_hi (a b : Vec Ideal S1x1x128x256 .f32) (hr : r < 256) (hd : d < 64) :
    rd (s := S256x128) (k0_pay840 (F := Ideal) a b) ![r, 64 + d] =
      rd (s := S1x1x128x256) b ![0, 0, d, r] * Ideal.div 1 (rd (s := S1x1x128x256) b ![0, 0, 64, r]) := by
  refine (rd2 (n0 := 256) (n1 := 128) _ ⟨r, hr⟩ ⟨64 + d, by omega⟩).trans ?_
  rw [pay840_at, if_neg (by simp)]
  have e : (⟨(64 + d + 128 - 64) % 128, Nat.mod_lt _ (by decide)⟩ : Fin 128) = ⟨d, by omega⟩ := Fin.ext (by show _ % 128 = d; omega)
  refine (congrArg₂ (fun x y => x * Ideal.div 1 y) (congrArg (fun z => b (ix4 0 0 z ⟨r, hr⟩)) e) rfl).trans ?_
  exact congrArg₂ (fun x y => x * Ideal.div 1 y) (rd4 (n0 := 1) (n1 := 1) (n2 := 128) (n3 := 256) b 0 0 ⟨d, by omega⟩ ⟨r, hr⟩).symm
    (rd4 (n0 := 1) (n1 := 1) (n2 := 128) (n3 := 256) b 0 0 64 ⟨r, hr⟩).symm

theorem pay1141_rd (hh : h < 4) (hi : i < 8) (hj : j < 256) : rd (s := S1x4x8x256) (k0_pay1141 (F := Ideal)) ![0, h, i, j] = ⊥ :=
  (rd4 (n0 := 1) (n1 := 4) (n2 := 8) (n3 := 256) _ 0 ⟨h, hh⟩ ⟨i, hi⟩ ⟨j, hj⟩).trans (pay1141_at _ _ _)

end Cert.KernelIdeal.Attn
-- ==== Proof.Online.lean ====
module

public import proofs.«01_k».proof.Proof.Payload
public import proofs.«01_k».proof.Proof.Launch

/-! What each operation of the attention keeps and establishes, at the extended reals. -/

@[expose] public section

noncomputable section

namespace Cert.KernelIdeal.Attn

open Cert.KernelIdeal Cert.KernelIdeal.Gen Cert.Attn
open Idealize.ShloMosaic Idealize.ShloMosaic.VecWindow

/-- The base-two exponential of a real, as an extended real. -/
def pow2 (x : ℝ) : EReal := ((2 : ℝ) ^ x : ℝ)

theorem exp2_real (x : ℝ) : Ideal.exp2 (x : EReal) = pow2 x := rfl

theorem pow2_pos (x : ℝ) : (0 : ℝ) < (2 : ℝ) ^ x := Real.rpow_pos_of_pos two_pos x

theorem coe_sum {ι : Type} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

/-- Sums of extended reals times a finite nonnegative number. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a s ha ih =>
    rw [Finset.sum_insert ha, Finset.sum_insert ha, ← ih, mul_comm,
      EReal.left_distrib_of_nonneg_of_ne_top (by exact_mod_cast hc) (EReal.coe_ne_top c), mul_comm, mul_comm (c : EReal)]

/-- The inputs of one launch point: real queries and keys, any values. -/
structure Inp where
  q : ℕ → ℕ → ℝ
  k : ℕ → ℕ → ℝ
  v : ℕ → ℕ → EReal

variable (I : Inp)

/-- The state's inputs read as `I`. -/
def Good (S : St Ideal) : Prop :=
  (∀ l < 256, ∀ x < 8192, rd (s := S256x8192) S.q ![l, x] = (I.q l x : EReal)) ∧
  (∀ y < 8192, ∀ l < 256, rd (s := S8192x256) S.k ![y, l] = (I.k y l : EReal)) ∧
  (∀ d < 72, ∀ y < 8192, rd (s := S128x8192) S.v ![d, y] = I.v d y)

/-- The score of head `h`, query `x`, key `y`. -/
def Inp.sc (h x y : ℕ) : ℝ := ∑ l ∈ Finset.range 128, I.k y (128 * (h % 2) + l) * I.q (128 * (h / 2) + l) x

/-- The buffers `b` hold the scores of head `h` for query block `X` and key chunk `c`. -/
def SB (b : Bool) (h X c : ℕ) (S : St Ideal) : Prop :=
  (∀ r < 512, ∀ j < 256, rd (s := S4x512x256) (S.s b) ![h, r, j] = (I.sc h (256 * X + j) (512 * c + r) : EReal)) ∧
  ∃ γ : ℕ → ℝ, ∀ i < 8, ∀ j < 256, rd (s := S4x8x256) (S.c b) ![h, i, j] = (γ j : EReal)

/-- The running maximum and sums of head `h` after `c` key chunks, in slot `p`. -/
def AC (p h X : ℕ) : ℕ → St Ideal → Prop
  | 0, S => ∀ i < 8, ∀ j < 256, rd (s := S2x4x8x256) S.m ![p, h, i, j] = ⊥
  | c + 1, S => ∃ μ : ℕ → ℝ, (∀ i < 8, ∀ j < 256, rd (s := S2x4x8x256) S.m ![p, h, i, j] = (μ j : EReal)) ∧
      ∀ d < 72, ∀ j < 256, rd (s := S2x4x128x256) S.a ![p, h, d, j]
        = ∑ y ∈ Finset.range (512 * (c + 1)), I.v d y * pow2 (I.sc h (256 * X + j) y - μ j)

/-- The attention of head `h` for query `x`, coordinate `d`. -/
def Inp.out (h d x : ℕ) : EReal :=
  ∑ y ∈ Finset.range 8192, I.v d y * (((2 : ℝ) ^ I.sc h x y / ∑ z ∈ Finset.range 8192, (2 : ℝ) ^ I.sc h x z : ℝ) : EReal)

/-- The output holds the attention of head `h` for query block `X`. -/
def OD (h X : ℕ) (S : St Ideal) : Prop :=
  ∀ j < 256, ∀ d < 64, rd (s := S8192x256) S.o ![256 * X + j, 64 * h + d] = I.out h d (256 * X + j)

variable {I} {S : St Ideal} {b b' : Bool} {h h' X X' c c' p p' : ℕ}

theorem Good.run (hG : Good I S) (op : Op) : Good I (op.run S) := by
  unfold Good; rw [op_run_q, op_run_k, op_run_v]; exact hG

theorem setSC_s (s c) : (S.setSC b s c).s b = s := by cases b <;> rfl
theorem setSC_c (s c) : (S.setSC b s c).c b = c := by cases b <;> rfl
theorem setSC_s_ne (hb : b' ≠ b) (s c) : (S.setSC b s c).s b' = S.s b' := by cases b <;> cases b' <;> first | rfl | exact absurd rfl hb
theorem setSC_c_ne (hb : b' ≠ b) (s c) : (S.setSC b s c).c b' = S.c b' := by cases b <;> cases b' <;> first | rfl | exact absurd rfl hb
theorem setSC_m (s c) : (S.setSC b s c).m = S.m := by cases b <;> rfl
theorem setSC_a (s c) : (S.setSC b s c).a = S.a := by cases b <;> rfl
theorem setSC_o (s c) : (S.setSC b s c).o = S.o := by cases b <;> rfl

/-! ### Scores -/

/-- The score operation establishes the scores of its head. -/
theorem sc_SB (hG : Good I S) (hh : Fin 4) {oq ok} (hq hk) (eq : oq = ![128 * (hh.val / 2), 256 * X])
    (ek : ok = ![512 * c, 128 * (hh.val % 2)]) : SB I b hh.val X c ((Op.sc b oq hq ok hk hh).run S) := by
  subst eq ek
  have b0 : 128 * (hh.val / 2) + 128 ≤ 256 := hq 0
  have b1 : 256 * X + 256 ≤ 8192 := hq 1
  have b2 : 512 * c + 512 ≤ 8192 := hk 0
  have b3 : 128 * (hh.val % 2) + 128 ≤ 256 := hk 1
  have key : ∀ r < 512, ∀ j < 256, rd (s := S1x512x256) (k0_pay844 (F := Ideal) (window S.q ![128 * (hh.val / 2), 256 * X] S128x256.size hq)
      (window S.k ![512 * c, 128 * (hh.val % 2)] S512x128.size hk)) ![0, r, j] = (I.sc hh.val (256 * X + j) (512 * c + r) : EReal) := by
    intro r hr j hj
    refine (pay844_rd _ _ hr hj).trans ?_
    rw [Inp.sc, coe_sum]
    refine Finset.sum_congr rfl fun l hl => ?_
    have hl := Finset.mem_range.1 hl
    rw [EReal.coe_mul]
    refine congrArg₂ (· * ·) ?_ ?_
    · exact (window2 S.k hk (512 * c + r) (128 * (hh.val % 2) + l) ⟨hr, hl⟩ ⟨rfl, rfl⟩).trans (hG.2.1 _ (by omega) _ (by omega))
    · exact (window2 S.q hq (128 * (hh.val / 2) + l) (256 * X + j) ⟨hl, hj⟩ ⟨rfl, rfl⟩).trans (hG.1 _ (by omega) _ (by omega))
  refine ⟨fun r hr j hj => ?_, ?_⟩
  · refine (congrArg (fun z => rd (s := S4x512x256) z ![hh.val, r, j]) (setSC_s _ _)).trans ?_
    refine (put3 (n0 := 4) (n1 := 512) (n2 := 256) (S.s b) _ 0 r j ⟨by decide, hr, hj⟩ ⟨hh.isLt, hr, hj⟩ ⟨rfl, (zero_add _).symm, (zero_add _).symm⟩).trans ?_
    exact key r hr j hj
  · obtain ⟨γ, hγ⟩ := pay845_rd _ _ (fun r j => I.sc hh.val (256 * X + j) (512 * c + r)) key
    refine ⟨γ, fun i hi j hj => ?_⟩
    refine (congrArg (fun z => rd (s := S4x8x256) z ![hh.val, i, j]) (setSC_c _ _)).trans ?_
    refine (put3 (n0 := 4) (n1 := 8) (n2 := 256) (S.c b) _ 0 i j ⟨by decide, hi, hj⟩ ⟨hh.isLt, hi, hj⟩ ⟨rfl, (zero_add _).symm, (zero_add _).symm⟩).trans ?_
    exact hγ i hi j hj

theorem sc_SB_keep (hh : Fin 4) {oq ok} (hq hk) (hne : b' ≠ b ∨ h ≠ hh.val) (H : SB I b' h X c S) :
    SB I b' h X c ((Op.sc b oq hq ok hk hh).run S) := by
  by_cases hb : b' = b
  · subst hb
    have hne : h ≠ hh.val := hne.resolve_left fun z => z rfl
    obtain ⟨H1, γ, H2⟩ := H
    refine ⟨fun r hr j hj => ?_, γ, fun i hi j hj => ?_⟩
    · refine (congrArg (fun z => rd (s := S4x512x256) z ![h, r, j]) (setSC_s _ _)).trans ?_
      refine (rd_put_out (s := S4x512x256) (S.s b') _ _ _ ![h, r, j] 0 ?_).trans (H1 r hr j hj)
      show h < hh.val ∨ hh.val + 1 ≤ h
      omega
    · refine (congrArg (fun z => rd (s := S4x8x256) z ![h, i, j]) (setSC_c _ _)).trans ?_
      refine (rd_put_out (s := S4x8x256) (S.c b') _ _ _ ![h, i, j] 0 ?_).trans (H2 i hi j hj)
      show h < hh.val ∨ hh.val + 1 ≤ h
      omega
  · unfold SB
    show (∀ r < 512, ∀ j < 256, rd (s := S4x512x256) ((S.setSC b _ _).s b') _ = _) ∧ ∃ γ : ℕ → ℝ, ∀ i < 8, ∀ j < 256, rd (s := S4x8x256) ((S.setSC b _ _).c b') _ = _
    rw [setSC_s_ne hb, setSC_c_ne hb]; exact H

theorem sc_AC (hh : Fin 4) {oq ok} (hq hk) (H : AC I p h X c S) : AC I p h X c ((Op.sc b oq hq ok hk hh).run S) := by
  cases c <;> unfold AC at * <;> (simp only [Op.run, setSC_m, setSC_a]; exact H)

theorem sc_OD (hh : Fin 4) {oq ok} (hq hk) (H : OD I h X S) : OD I h X ((Op.sc b oq hq ok hk hh).run S) := by
  unfold OD at *; simp only [Op.run, setSC_o]; exact H

/-! ### Accumulation -/

/-- The online step: rescale what was summed and add a chunk. -/
theorem online (v : ℕ → EReal) (s : ℕ → ℝ) (n : ℕ) (μ ν : ℝ) (a : EReal)
    (ha : a = ∑ y ∈ Finset.range n, v y * pow2 (s y - μ)) :
    a * pow2 (μ - ν) + ∑ r ∈ Finset.range 512, v (n + r) * pow2 (s (n + r) - ν)
      = ∑ y ∈ Finset.range (n + 512), v y * pow2 (s y - ν) := by
  rw [Finset.sum_range_add, ha]
  refine congrArg (· + _) ?_
  rw [pow2, sum_mul_real _ _ (pow2_pos _).le]
  refine Finset.sum_congr rfl fun y _ => ?_
  rw [mul_assoc, pow2, pow2, ← EReal.coe_mul, ← Real.rpow_add two_pos]
  ring_nf

theorem ac_AC (hG : Good I S) (hh : Fin 4) {ov om oa} (hv hm ha) (ev : ov = ![0, 512 * c]) (em : om = ![p, hh.val, 0, 0])
    (ea : oa = ![p, hh.val, 0, 0]) (HS : SB I b hh.val X c S) (HA : AC I p hh.val X c S) :
    AC I p hh.val X (c + 1) ((Op.ac b ov hv om hm oa ha hh).run S) := by
  subst ev em ea
  have b0 : p + 1 ≤ 2 := hm 0
  have b1 : 512 * c + 512 ≤ 8192 := hv 1
  obtain ⟨HS1, γ, HS2⟩ := HS
  -- what the operation reads
  have rc : ∀ i < 8, ∀ j < 256, rd (s := S1x8x256) (window (S.c b) ![hh.val, 0, 0] S1x8x256.size (inb_c hh)) ![0, i, j] = (γ j : EReal) :=
    fun i hi j hj => (window3 (n0 := 4) (n1 := 8) (n2 := 256) (S.c b) (inb_c hh) hh.val i j ⟨by decide, hi, hj⟩ ⟨rfl, (zero_add _).symm, (zero_add _).symm⟩).trans (HS2 i hi j hj)
  have rs : ∀ r < 512, ∀ j < 256, rd (s := S1x512x256) (window (S.s b) ![hh.val, 0, 0] S1x512x256.size (inb_s hh)) ![0, r, j]
      = (I.sc hh.val (256 * X + j) (512 * c + r) : EReal) :=
    fun r hr j hj => (window3 (n0 := 4) (n1 := 512) (n2 := 256) (S.s b) (inb_s hh) hh.val r j ⟨by decide, hr, hj⟩ ⟨rfl, (zero_add _).symm, (zero_add _).symm⟩).trans (HS1 r hr j hj)
  have rv : ∀ d < 72, ∀ r < 512, rd (s := S72x512) (window S.v ![0, 512 * c] S72x512.size hv) ![d, r] = I.v d (512 * c + r) :=
    fun d hd r hr => (window2 (n0 := 128) (n1 := 8192) S.v hv d (512 * c + r) ⟨hd, hr⟩ ⟨(zero_add _).symm, rfl⟩).trans (hG.2.2 d hd _ (by omega))
  have rm : ∀ i < 8, ∀ j < 256, rd (s := S1x1x8x256) (window S.m ![p, hh.val, 0, 0] S1x1x8x256.size hm) ![0, 0, i, j]
      = rd (s := S2x4x8x256) S.m ![p, hh.val, i, j] :=
    fun i hi j hj => window4 (n0 := 2) (n1 := 4) (n2 := 8) (n3 := 256) S.m hm p hh.val i j ⟨by decide, by decide, hi, hj⟩ ⟨rfl, rfl, (zero_add _).symm, (zero_add _).symm⟩
  have ra : ∀ d < 72, ∀ j < 256, rd (s := S1x1x72x256) (window S.a ![p, hh.val, 0, 0] S1x1x72x256.size ha) ![0, 0, d, j]
      = rd (s := S2x4x128x256) S.a ![p, hh.val, d, j] :=
    fun d hd j hj => window4 (n0 := 2) (n1 := 4) (n2 := 128) (n3 := 256) S.a ha p hh.val d j ⟨by decide, by decide, hd, hj⟩ ⟨rfl, rfl, (zero_add _).symm, (zero_add _).symm⟩
  -- what it leaves
  have wm : ∀ i < 8, ∀ j < 256, rd (s := S2x4x8x256) ((Op.ac b _ hv _ hm _ ha hh).run S).m ![p, hh.val, i, j]
      = max (rd (s := S2x4x8x256) S.m ![p, hh.val, i, j]) (γ j : EReal) := by
    intro i hi j hj
    refine (put4 (n0 := 2) (n1 := 4) (n2 := 8) (n3 := 256) S.m _ 0 0 i j ⟨by decide, by decide, hi, hj⟩ ⟨by omega, hh.isLt, hi, hj⟩ ⟨rfl, rfl, (zero_add _).symm, (zero_add _).symm⟩).trans ?_
    refine (pay849_rd _ _ hi hj).trans ?_
    exact congrArg₂ max (rm i hi j hj) (rc i hi j hj)
  have wa : ∀ d < 72, ∀ j < 256, rd (s := S2x4x128x256) ((Op.ac b _ hv _ hm _ ha hh).run S).a ![p, hh.val, d, j]
      = rd (s := S2x4x128x256) S.a ![p, hh.val, d, j] * Ideal.exp2 (rd (s := S2x4x8x256) S.m ![p, hh.val, 0, j]
          - max (rd (s := S2x4x8x256) S.m ![p, hh.val, 0, j]) (γ j : EReal))
        + ∑ r ∈ Finset.range 512, I.v d (512 * c + r) * Ideal.exp2 ((I.sc hh.val (256 * X + j) (512 * c + r) : EReal)
          - max (rd (s := S2x4x8x256) S.m ![p, hh.val, 0, j]) (γ j : EReal)) := by
    intro d hd j hj
    refine (put4 (n0 := 2) (n1 := 4) (n2 := 128) (n3 := 256) S.a _ 0 0 d j ⟨by decide, by decide, hd, hj⟩ ⟨by omega, hh.isLt, by omega, hj⟩ ⟨rfl, rfl, (zero_add _).symm, (zero_add _).symm⟩).trans ?_
    refine (pay848_rd _ _ _ _ _ hd hj).trans ?_
    have e1 := rm 0 (by decide) j hj
    have e2 := rc 0 (by decide) j hj
    refine congrArg₂ (· + ·) (congrArg₂ (· * ·) (ra d hd j hj) (congrArg₂ (fun x y => Ideal.exp2 (x - max x y)) e1 e2)) ?_
    refine Finset.sum_congr rfl fun r hr => congrArg₂ (· * ·) (rv d hd r (Finset.mem_range.1 hr)) ?_
    exact congrArg Ideal.exp2 (congrArg₂ (· - ·) (rs r (Finset.mem_range.1 hr) j hj) (congrArg₂ max e1 e2))
  cases c with
  | zero =>
    refine ⟨γ, fun i hi j hj => ?_, fun d hd j hj => ?_⟩
    · rw [wm i hi j hj, HA i hi j hj]; exact max_eq_right bot_le
    · rw [wa d hd j hj, HA 0 (by decide) j hj, max_eq_right bot_le]
      have e : (⊥ : EReal) - (γ j : EReal) = ⊥ := EReal.bot_sub _
      rw [e, Ideal.exp2_bot, mul_zero, zero_add]
      refine Finset.sum_congr rfl fun r _ => ?_
      rw [mul_zero, zero_add, ← EReal.coe_sub, exp2_real]
  | succ c =>
    obtain ⟨μ, HM, HV⟩ := HA
    refine ⟨fun j => max (μ j) (γ j), fun i hi j hj => ?_, fun d hd j hj => ?_⟩
    · rw [wm i hi j hj, HM i hi j hj]; exact (coe_max _ _).symm
    · rw [wa d hd j hj, HM 0 (by decide) j hj, ← coe_max, ← EReal.coe_sub, exp2_real]
      refine Eq.trans ?_ (online (I.v d) (I.sc hh.val (256 * X + j)) (512 * (c + 1)) (μ j) (max (μ j) (γ j)) _ (HV d hd j hj))
      refine congrArg₂ (· + ·) rfl (Finset.sum_congr rfl fun r _ => ?_)
      rw [← EReal.coe_sub, exp2_real]

theorem ac_SB (hh : Fin 4) {ov om oa} (hv hm ha) (H : SB I b' h X c S) : SB I b' h X c ((Op.ac b ov hv om hm oa ha hh).run S) := H

theorem ac_OD (hh : Fin 4) {ov om oa} (hv hm ha) (H : OD I h X S) : OD I h X ((Op.ac b ov hv om hm oa ha hh).run S) := H

theorem ac_AC_keep (hh : Fin 4) {ov om oa} (hv hm ha) (em : om = ![p, hh.val, 0, 0]) (ea : oa = ![p, hh.val, 0, 0])
    (hne : p' ≠ p ∨ h ≠ hh.val) (H : AC I p' h X c S) : AC I p' h X c ((Op.ac b ov hv om hm oa ha hh).run S) := by
  subst em ea
  have wm : ∀ i j, rd (s := S2x4x8x256) ((Op.ac b ov hv _ hm _ ha hh).run S).m ![p', h, i, j] = rd (s := S2x4x8x256) S.m ![p', h, i, j] := by
    intro i j
    rcases hne with e | e
    · exact rd_put_out (s := S2x4x8x256) S.m _ _ _ _ 0 (by show p' < p ∨ p + 1 ≤ p'; omega)
    · exact rd_put_out (s := S2x4x8x256) S.m _ _ _ _ 1 (by show h < hh.val ∨ hh.val + 1 ≤ h; omega)
  have wa : ∀ d j, rd (s := S2x4x128x256) ((Op.ac b ov hv _ hm _ ha hh).run S).a ![p', h, d, j] = rd (s := S2x4x128x256) S.a ![p', h, d, j] := by
    intro i j
    rcases hne with e | e
    · exact rd_put_out (s := S2x4x128x256) S.a _ _ _ _ 0 (by show p' < p ∨ p + 1 ≤ p'; omega)
    · exact rd_put_out (s := S2x4x128x256) S.a _ _ _ _ 1 (by show h < hh.val ∨ hh.val + 1 ≤ h; omega)
  cases c with
  | zero => intro i hi j hj; rw [wm]; exact H i hi j hj
  | succ c =>
    obtain ⟨μ, H1, H2⟩ := H
    exact ⟨μ, fun i hi j hj => by rw [wm]; exact H1 i hi j hj, fun d hd j hj => by rw [wa]; exact H2 d hd j hj⟩

/-! ### Finishing a block -/

/-- Dividing the sums by the sum of the weights. -/
theorem normalize (v : ℕ → EReal) (s : ℕ → ℝ) (n : ℕ) (hn : 0 < n) (μ : ℝ) :
    (∑ y ∈ Finset.range n, v y * pow2 (s y - μ)) * Ideal.div 1 (∑ y ∈ Finset.range n, (1 : EReal) * pow2 (s y - μ))
      = ∑ y ∈ Finset.range n, v y * (((2 : ℝ) ^ s y / ∑ z ∈ Finset.range n, (2 : ℝ) ^ s z : ℝ) : EReal) := by
  have hpos : 0 < ∑ z ∈ Finset.range n, (2 : ℝ) ^ (s z - μ) :=
    Finset.sum_pos (fun _ _ => pow2_pos _) ⟨0, Finset.mem_range.2 hn⟩
  have e1 : (∑ y ∈ Finset.range n, (1 : EReal) * pow2 (s y - μ)) = ((∑ z ∈ Finset.range n, (2 : ℝ) ^ (s z - μ) : ℝ) : EReal) := by
    rw [coe_sum]; exact Finset.sum_congr rfl fun y _ => one_mul _
  rw [e1, Ideal.div_coe hpos.ne', one_mul, sum_mul_real _ _ (one_div_pos.2 hpos).le]
  refine Finset.sum_congr rfl fun y _ => ?_
  rw [mul_assoc, pow2, ← EReal.coe_mul]
  congr 2
  have e2 : ∀ z, (2 : ℝ) ^ (s z - μ) = (2 : ℝ) ^ s z * (2 : ℝ) ^ (-μ) := fun z => by rw [← Real.rpow_add two_pos]; ring_nf
  have hp := (pow2_pos (-μ)).ne'
  simp only [e2, ← Finset.sum_mul]
  rw [mul_one_div, mul_div_mul_right _ _ hp]

/-- Finishing a pair of heads. -/
theorem fin_OD (hv64 : ∀ y < 8192, I.v 64 y = 1) {oa ob oo} (ha hb ho hp) (g : ℕ) (hg : g < 2)
    (ea : oa = ![p, 2 * g, 0, 0]) (eb : ob = ![p, 2 * g + 1, 0, 0]) (eo : oo = ![256 * X, 128 * g])
    (H0 : AC I p (2 * g) X 16 S) (H1 : AC I p (2 * g + 1) X 16 S) :
    OD I (2 * g) X ((Op.fin oa ha ob hb oo ho hp).run S) ∧ OD I (2 * g + 1) X ((Op.fin oa ha ob hb oo ho hp).run S) := by
  subst ea eb eo
  have b0 : p + 1 ≤ 2 := ha 0
  have b1 : 256 * X + 256 ≤ 8192 := ho 0
  have rr : ∀ (hd : ℕ) (hw : _) , AC I p hd X 16 S → ∀ j < 256, ∀ d < 64,
      rd (s := S1x1x128x256) (window S.a ![p, hd, 0, 0] S1x1x128x256.size hw) ![0, 0, d, j]
        * Ideal.div 1 (rd (s := S1x1x128x256) (window S.a ![p, hd, 0, 0] S1x1x128x256.size hw) ![0, 0, 64, j]) = I.out hd d (256 * X + j) := by
    intro hd hw HA j hj d hdl
    obtain ⟨μ, -, HV⟩ := HA
    have ra : ∀ d < 72, rd (s := S1x1x128x256) (window S.a ![p, hd, 0, 0] S1x1x128x256.size hw) ![0, 0, d, j]
        = rd (s := S2x4x128x256) S.a ![p, hd, d, j] :=
      fun d hd' => window4 (n0 := 2) (n1 := 4) (n2 := 128) (n3 := 256) S.a hw p hd d j ⟨by decide, by decide, by omega, hj⟩ ⟨rfl, rfl, (zero_add _).symm, (zero_add _).symm⟩
    rw [ra d (by omega), ra 64 (by decide), HV d (by omega) j hj, HV 64 (by decide) j hj]
    have e : ∑ y ∈ Finset.range (512 * (15 + 1)), I.v 64 y * pow2 (I.sc hd (256 * X + j) y - μ j)
        = ∑ y ∈ Finset.range (512 * (15 + 1)), (1 : EReal) * pow2 (I.sc hd (256 * X + j) y - μ j) :=
      Finset.sum_congr rfl fun y hy => by rw [hv64 y (Finset.mem_range.1 hy)]
    rw [e]
    exact normalize (I.v d) (I.sc hd (256 * X + j)) 8192 (by decide) (μ j)
  refine ⟨fun j hj d hd => ?_, fun j hj d hd => ?_⟩
  · refine (put2 (n0 := 8192) (n1 := 256) S.o _ j d ⟨hj, by omega⟩ ⟨by omega, by omega⟩ ⟨rfl, by omega⟩).trans ?_
    exact (pay840_rd_lo _ _ hj hd).trans (rr _ ha H0 j hj d hd)
  · refine (put2 (n0 := 8192) (n1 := 256) S.o _ j (64 + d) ⟨hj, by omega⟩ ⟨by omega, by omega⟩ ⟨rfl, by omega⟩).trans ?_
    exact (pay840_rd_hi _ _ hj hd).trans (rr _ hb H1 j hj d hd)

theorem fin_SB {oa ob oo} (ha hb ho hp) (H : SB I b h X c S) : SB I b h X c ((Op.fin oa ha ob hb oo ho hp).run S) := H

theorem fin_AC {oa ob oo} (ha hb ho hp) (H : AC I p h X c S) : AC I p h X c ((Op.fin oa ha ob hb oo ho hp).run S) := by
  cases c <;> exact H

theorem fin_OD_keep {oa ob oo} (ha hb ho hp) {g : ℕ} (eo : oo = ![256 * X, 128 * g]) (hne : X' ≠ X ∨ h / 2 ≠ g) (H : OD I h X' S) :
    OD I h X' ((Op.fin oa ha ob hb oo ho hp).run S) := by
  subst eo
  intro j hj d hd
  refine Eq.trans ?_ (H j hj d hd)
  rcases hne with e | e
  · exact rd_put_out (s := S8192x256) S.o _ _ _ _ 0 (by show 256 * X' + j < 256 * X ∨ 256 * X + 256 ≤ 256 * X' + j; omega)
  · exact rd_put_out (s := S8192x256) S.o _ _ _ _ 1 (by show 64 * h + d < 128 * g ∨ 128 * g + 128 ≤ 64 * h + d; omega)

/-! ### Starting a block -/

theorem reset_AC (hh : h < 4) {om} (hm) (em : om = ![p, 0, 0, 0]) : AC I p h X 0 ((Op.reset om hm).run S) := by
  subst em
  have b0 : p + 1 ≤ 2 := hm 0
  intro i hi j hj
  refine (put4 (n0 := 2) (n1 := 4) (n2 := 8) (n3 := 256) S.m _ 0 h i j ⟨by decide, hh, hi, hj⟩ ⟨by omega, hh, hi, hj⟩
    ⟨rfl, (zero_add _).symm, (zero_add _).symm, (zero_add _).symm⟩).trans ?_
  exact pay1141_rd hh hi hj

theorem reset_SB {om} (hm) (H : SB I b h X c S) : SB I b h X c ((Op.reset om hm).run S) := H
theorem reset_OD {om} (hm) (H : OD I h X S) : OD I h X ((Op.reset om hm).run S) := H

theorem reset_AC_keep {om} (hm) (em : om = ![p, 0, 0, 0]) (hne : p' ≠ p) (H : AC I p' h X c S) :
    AC I p' h X c ((Op.reset om hm).run S) := by
  subst em
  have wm : ∀ i j, rd (s := S2x4x8x256) ((Op.reset _ hm).run S).m ![p', h, i, j] = rd (s := S2x4x8x256) S.m ![p', h, i, j] := fun i j =>
    rd_put_out (s := S2x4x8x256) S.m _ _ _ _ 0 (by show p' < p ∨ p + 1 ≤ p'; omega)
  cases c with
  | zero => intro i hi j hj; rw [wm]; exact H i hi j hj
  | succ c =>
    obtain ⟨μ, H1, H2⟩ := H
    exact ⟨μ, fun i hi j hj => by rw [wm]; exact H1 i hi j hj, H2⟩

end Cert.KernelIdeal.Attn
-- ==== Proof.Blocks.lean ====
module

public import proofs.«01_k».proof.Proof.Online

/-! The whole attention body at the extended reals: by head, by key chunk, by query block. -/

@[expose] public section

noncomputable section

namespace Cert.KernelIdeal.Attn

open Cert.KernelIdeal Cert.KernelIdeal.Gen Cert.Attn
open Idealize.ShloMosaic Idealize.ShloMosaic.VecWindow

/-! ### Where the operations of a block read and write -/

theorem offs2_q : ∀ t h, (offs2 t).q h = ![128 * (h.val / 2), 256 * t.val] := by decide +kernel
theorem offs2_m : ∀ t h, (offs2 t).m h = ![t.val % 2, h.val, 0, 0] := by decide +kernel
theorem offs2_a : ∀ t h, (offs2 t).a h = ![t.val % 2, h.val, 0, 0] := by decide +kernel
theorem offs4_q : ∀ t h, (offs4 t).q h = ![128 * (h.val / 2), 256 * t.val] := by decide +kernel
theorem offs4_m : ∀ t h, (offs4 t).m h = ![t.val % 2, h.val, 0, 0] := by decide +kernel
theorem offs4_a : ∀ t h, (offs4 t).a h = ![t.val % 2, h.val, 0, 0] := by decide +kernel
theorem offs4'_q : ∀ t h, (offs4' t).q h = ![128 * (h.val / 2), 256 * min (t.val + 1) 31] := by decide +kernel
theorem off1_eq : ∀ t, k0_off1 t = ![t.val % 2, 0, 0, 0] := by decide +kernel
theorem off22_eq : ∀ t, k0_off22 t = ![(t.val + 1) % 2, 2 * 0, 0, 0] := by decide +kernel
theorem off23_eq : ∀ t, k0_off23 t = ![(t.val + 1) % 2, 2 * 0 + 1, 0, 0] := by decide +kernel
theorem off24_eq : ∀ t, k0_off24 t = ![256 * (t.val - 1), 128 * 0] := by decide +kernel
theorem off25_eq : ∀ t, k0_off25 t = ![(t.val + 1) % 2, 2 * 1, 0, 0] := by decide +kernel
theorem off26_eq : ∀ t, k0_off26 t = ![(t.val + 1) % 2, 2 * 1 + 1, 0, 0] := by decide +kernel
theorem off27_eq : ∀ t, k0_off27 t = ![256 * (t.val - 1), 128 * 1] := by decide +kernel

variable {I : Inp} {S : St Ideal} {b : Bool} {X X' c c' p q t n : ℕ}

/-- What the steps of a block do not touch: the sums of the block before, in the other slot, and the first `n`
    blocks of the output. -/
def Rest (I : Inp) (q t n : ℕ) (S : St Ideal) : Prop :=
  (0 < t → ∀ h < 4, AC I q h (t - 1) 16 S) ∧ ∀ X < n, ∀ h < 4, OD I h X S

/-- Between two steps: the scores to add next, the sums so far, and the rest. -/
def Mid (I : Inp) (b : Bool) (Y e p X c q t n : ℕ) (S : St Ideal) : Prop :=
  Good I S ∧ (∀ h < 4, SB I b h Y e S) ∧ (∀ h < 4, AC I p h X c S) ∧ Rest I q t n S

/-- Within a step, the first `k` heads done. -/
def Part (I : Inp) (b : Bool) (p X c X' c' q t n k : ℕ) (S : St Ideal) : Prop :=
  Good I S ∧ (∀ h < 4, SB I b h X c S) ∧ (∀ h < k, SB I (!b) h X' c' S) ∧ (∀ h < 4, AC I p h X (if h < k then c + 1 else c) S)
    ∧ Rest I q t n S

/-- One head of a step. -/
theorem part_head (h : Fin 4) {oq ok ov om oa} (hq hk hv hm ha) (hpq : q ≠ p)
    (eq : oq = ![128 * (h.val / 2), 256 * X']) (ek : ok = ![512 * c', 128 * (h.val % 2)]) (ev : ov = ![0, 512 * c])
    (em : om = ![p, h.val, 0, 0]) (ea : oa = ![p, h.val, 0, 0]) (H : Part I b p X c X' c' q t n h.val S) :
    Part I b p X c X' c' q t n (h.val + 1) ((Op.ac b ov hv om hm oa ha h).run ((Op.sc (!b) oq hq ok hk h).run S)) := by
  obtain ⟨hG, hS, hS', hA, hR1, hR2⟩ := H
  have hb : b ≠ !b := by cases b <;> decide
  have hG1 := hG.run (Op.sc (!b) oq hq ok hk h)
  have hS1 : ∀ g < 4, SB I b g X c ((Op.sc (!b) oq hq ok hk h).run S) := fun g hg => sc_SB_keep h hq hk (.inl hb) (hS g hg)
  have hA1 := fun g (hg : g < 4) => sc_AC (b := !b) h hq hk (hA g hg)
  refine ⟨hG1.run _, fun g hg => ac_SB h hv hm ha (hS1 g hg), fun g hg => ac_SB h hv hm ha ?_, fun g hg => ?_,
    fun ht g hg => ?_, fun Y hY g hg => ac_OD h hv hm ha (sc_OD h hq hk (hR2 Y hY g hg))⟩
  · rcases Nat.lt_succ_iff_lt_or_eq.1 hg with e | e
    · exact sc_SB_keep h hq hk (.inr e.ne) (hS' g e)
    · subst e; exact sc_SB hG h hq hk eq ek
  · by_cases e : g = h.val
    · subst e
      rw [if_pos (Nat.lt_succ_self _)]
      refine ac_AC hG1 h hv hm ha ev em ea (hS1 _ hg) ?_
      have := hA1 _ hg
      rwa [if_neg (lt_irrefl _)] at this
    · have e2 : (if g < h.val + 1 then c + 1 else c) = if g < h.val then c + 1 else c := by
        by_cases e3 : g < h.val
        · rw [if_pos e3, if_pos (by omega)]
        · rw [if_neg e3, if_neg (by omega)]
      rw [e2]
      exact ac_AC_keep h hv hm ha em ea (.inr e) (hA1 g hg)
  · exact ac_AC_keep h hv hm ha em ea (.inl hpq) (sc_AC h hq hk (hR1 ht g hg))

/-- One step over the keys. -/
theorem step (O : Offs) (c c' : Fin 16) (hpq : q ≠ p) (eq : ∀ h, O.q h = ![128 * (h.val / 2), 256 * X'])
    (em : ∀ h, O.m h = ![p, h.val, 0, 0]) (ea : ∀ h, O.a h = ![p, h.val, 0, 0]) (H : Mid I b X c.val p X c.val q t n S) :
    Mid I (!b) X' c'.val p X (c.val + 1) q t n (runs (stepOps O b c c') S) := by
  have h0 : Part I b p X c.val X' c'.val q t n (0 : Fin 4).val S := ⟨H.1, H.2.1, fun h hh => absurd hh (Nat.not_lt_zero _), H.2.2.1, H.2.2.2⟩
  have h1 := part_head 0 (O.hq 0) (inb_kx c' 0) (inb_vx c) (O.hm 0) (O.ha 0) hpq (eq 0) rfl rfl (em 0) (ea 0) h0
  have h2 := part_head 1 (O.hq 1) (inb_kx c' 1) (inb_vx c) (O.hm 1) (O.ha 1) hpq (eq 1) rfl rfl (em 1) (ea 1) h1
  have h3 := part_head 2 (O.hq 2) (inb_kx c' 2) (inb_vx c) (O.hm 2) (O.ha 2) hpq (eq 2) rfl rfl (em 2) (ea 2) h2
  have h4 := part_head 3 (O.hq 3) (inb_kx c' 3) (inb_vx c) (O.hm 3) (O.ha 3) hpq (eq 3) rfl rfl (em 3) (ea 3) h3
  have h5 : Part I b p X c.val X' c'.val q t n 4 (runs (stepOps O b c c') S) := h4
  clear h1 h2 h3 h4
  generalize runs (stepOps O b c c') S = T at h5 ⊢
  obtain ⟨hG, -, hS, hA, hR⟩ := h5
  exact ⟨hG, hS, fun h hh => by have := hA h hh; rwa [if_pos hh] at this, hR⟩

/-- The first twelve chunks of a block. -/
theorem ops2_mid (u : Fin k0_t1_loop.trips) (hpq : q ≠ u.val % 2) (H : Mid I false u.val 0 (u.val % 2) u.val 0 q t n S) :
    Mid I false u.val 12 (u.val % 2) u.val 12 q t n (runs (ops2 u) S) := by
  have pair : ∀ (j : Fin 6) (S : St Ideal), Mid I false u.val (2 * j.val) (u.val % 2) u.val (2 * j.val) q t n S →
      Mid I false u.val (2 * j.val + 2) (u.val % 2) u.val (2 * j.val + 2) q t n
        (runs (stepOps (offs2 u) false ⟨2 * j.val, by omega⟩ ⟨2 * j.val + 1, by omega⟩
          ++ stepOps (offs2 u) true ⟨2 * j.val + 1, by omega⟩ ⟨2 * j.val + 2, by omega⟩) S) := by
    intro j S H
    rw [runs_append]
    exact step (offs2 u) ⟨2 * j.val + 1, by omega⟩ ⟨2 * j.val + 2, by omega⟩ hpq (offs2_q u) (offs2_m u) (offs2_a u)
      (step (offs2 u) ⟨2 * j.val, by omega⟩ ⟨2 * j.val + 1, by omega⟩ hpq (offs2_q u) (offs2_m u) (offs2_a u) H)
  unfold ops2
  simp only [List.flatMap_cons, List.flatMap_nil, List.append_nil]
  rw [runs_append, runs_append, runs_append, runs_append, runs_append]
  exact pair 5 _ (pair 4 _ (pair 3 _ (pair 2 _ (pair 1 _ (pair 0 _ H)))))

/-- Finishing the block before, if there is one. -/
theorem fins_mid (hv64 : ∀ y < 8192, I.v 64 y = 1) {oa ob oo oa' ob' oo'} (ha hb ho hp ha' hb' ho' hp')
    (ea : oa = ![q, 2 * 0, 0, 0]) (eb : ob = ![q, 2 * 0 + 1, 0, 0]) (eo : oo = ![256 * (t - 1), 128 * 0])
    (ea' : oa' = ![q, 2 * 1, 0, 0]) (eb' : ob' = ![q, 2 * 1 + 1, 0, 0]) (eo' : oo' = ![256 * (t - 1), 128 * 1])
    (hA : 0 < t → ∀ h < 4, AC I q h (t - 1) 16 S) (hO : ∀ X < t - 1, ∀ h < 4, OD I h X S) :
    ∀ X < t, ∀ h < 4, OD I h X ((Op.fin oa' ha' ob' hb' oo' ho' hp').run ((Op.fin oa ha ob hb oo ho hp).run S)) := by
  intro X hX h hh
  have ht : 0 < t := by omega
  by_cases e : X = t - 1
  · subst e
    obtain ⟨f0, f1⟩ := fin_OD hv64 ha hb ho hp 0 (by decide) ea eb eo (hA ht 0 (by decide)) (hA ht 1 (by decide))
    obtain ⟨g0, g1⟩ := fin_OD hv64 ha' hb' ho' hp' 1 (by decide) ea' eb' eo' (fin_AC ha hb ho hp (hA ht 2 (by decide)))
      (fin_AC ha hb ho hp (hA ht 3 (by decide)))
    have k0 := fin_OD_keep ha' hb' ho' hp' eo' (.inr (by decide)) f0
    have k1 := fin_OD_keep ha' hb' ho' hp' eo' (.inr (by decide)) f1
    match h, hh with
    | 0, _ => exact k0
    | 1, _ => exact k1
    | 2, _ => exact g0
    | 3, _ => exact g1
  · exact fin_OD_keep ha' hb' ho' hp' eo' (.inl e) (fin_OD_keep ha hb ho hp eo (.inl e) (hO X (by omega) h hh))

/-- Between two blocks of queries. -/
def Inv (I : Inp) (t : ℕ) (S : St Ideal) : Prop :=
  Good I S ∧ (∀ h < 4, SB I false h (min t 31) 0 S) ∧ Rest I ((t + 1) % 2) t (t - 1) S

/-- The last four chunks of a block, with the first scores of the next. -/
theorem chunks4_mid (u : Fin k0_t1_loop.trips) (hpq : q ≠ u.val % 2) (H : Mid I false u.val 12 (u.val % 2) u.val 12 q t n S) :
    Mid I false (min (u.val + 1) 31) 0 (u.val % 2) u.val 16 q t n
      (runs (stepOps (offs4 u) false 12 13 ++ stepOps (offs4 u) true 13 14 ++ stepOps (offs4 u) false 14 15
        ++ stepOps (offs4' u) true 15 0) S) := by
  rw [runs_append, runs_append, runs_append]
  have m3 : Mid I true u.val 13 (u.val % 2) u.val 13 q t n _ := step (offs4 u) 12 13 hpq (offs4_q u) (offs4_m u) (offs4_a u) H
  generalize runs (stepOps (offs4 u) false 12 13) S = S3 at m3 ⊢
  have m4 : Mid I false u.val 14 (u.val % 2) u.val 14 q t n _ := step (offs4 u) 13 14 hpq (offs4_q u) (offs4_m u) (offs4_a u) m3
  generalize runs (stepOps (offs4 u) true 13 14) S3 = S4 at m4 ⊢
  have m5 : Mid I true u.val 15 (u.val % 2) u.val 15 q t n _ := step (offs4 u) 14 15 hpq (offs4_q u) (offs4_m u) (offs4_a u) m4
  generalize runs (stepOps (offs4 u) false 14 15) S4 = S5 at m5 ⊢
  exact step (offs4' u) 15 0 hpq (offs4'_q u) (offs4_m u) (offs4_a u) m5

/-- The block before finished in the middle of a block. -/
theorem fins_step (hv64 : ∀ y < 8192, I.v 64 y = 1) {oa ob oo oa' ob' oo'} (ha hb ho hp ha' hb' ho' hp')
    (ea : oa = ![q, 2 * 0, 0, 0]) (eb : ob = ![q, 2 * 0 + 1, 0, 0]) (eo : oo = ![256 * (t - 1), 128 * 0])
    (ea' : oa' = ![q, 2 * 1, 0, 0]) (eb' : ob' = ![q, 2 * 1 + 1, 0, 0]) (eo' : oo' = ![256 * (t - 1), 128 * 1])
    {Y e : ℕ} (H : Mid I b Y e p X c q t (t - 1) S) :
    Mid I b Y e p X c q t t ((Op.fin oa' ha' ob' hb' oo' ho' hp').run ((Op.fin oa ha ob hb oo ho hp).run S)) := by
  obtain ⟨g1, s1, a1, r1, o1⟩ := H
  exact ⟨(g1.run _).run _, fun h hh => fin_SB _ _ _ _ (fin_SB _ _ _ _ (s1 h hh)), fun h hh => fin_AC _ _ _ _ (fin_AC _ _ _ _ (a1 h hh)),
    fun ht h hh => fin_AC _ _ _ _ (fin_AC _ _ _ _ (r1 ht h hh)), fins_mid hv64 ha hb ho hp ha' hb' ho' hp' ea eb eo ea' eb' eo' r1 o1⟩

/-- One block of queries. -/
theorem block (hv64 : ∀ y < 8192, I.v 64 y = 1) (u : Fin k0_t1_loop.trips) (H : Inv I u.val S) :
    Inv I (u.val + 1) (runs (blockOps u) S) := by
  have hu : u.val < 32 := u.isLt
  obtain ⟨hG, hS, hR1, hR2⟩ := H
  have em : min u.val 31 = u.val := by omega
  rw [em] at hS
  have hpq : (u.val + 1) % 2 ≠ u.val % 2 := by omega
  have m0 : Mid I false u.val 0 (u.val % 2) u.val 0 ((u.val + 1) % 2) u.val (u.val - 1) ((Op.reset (k0_off1 u) (k0_off1_inb u)).run S) :=
    ⟨hG.run _, fun h hh => reset_SB _ (hS h hh), fun h hh => reset_AC hh _ (off1_eq u),
      fun ht h hh => reset_AC_keep _ (off1_eq u) hpq (hR1 ht h hh), fun X hX h hh => reset_OD _ (hR2 X hX h hh)⟩
  have e0 : runs (blockOps u) S = runs (ops4 u) (runs (ops2 u) ((Op.reset (k0_off1 u) (k0_off1_inb u)).run S)) := runs_append _ _ _
  rw [e0]
  generalize (Op.reset (k0_off1 u) (k0_off1_inb u)).run S = S0 at m0 ⊢
  have m1 := ops2_mid u hpq m0
  generalize runs (ops2 u) S0 = S1 at m1 ⊢
  have m2 := fins_step hv64 (k0_off22_inb u) (k0_off23_inb u) (k0_off24_inb u) (k0_off24_packedbf16 u) (k0_off25_inb u) (k0_off26_inb u)
    (k0_off27_inb u) (k0_off27_packedbf16 u) (off22_eq u) (off23_eq u) (off24_eq u) (off25_eq u) (off26_eq u) (off27_eq u) m1
  have e1 : runs (ops4 u) S1 = runs (stepOps (offs4 u) false 12 13 ++ stepOps (offs4 u) true 13 14 ++ stepOps (offs4 u) false 14 15
      ++ stepOps (offs4' u) true 15 0) ((Op.fin (k0_off25 u) (k0_off25_inb u) (k0_off26 u) (k0_off26_inb u) (k0_off27 u) (k0_off27_inb u)
        (k0_off27_packedbf16 u)).run ((Op.fin (k0_off22 u) (k0_off22_inb u) (k0_off23 u) (k0_off23_inb u) (k0_off24 u) (k0_off24_inb u)
          (k0_off24_packedbf16 u)).run S1)) := runs_append _ _ _
  rw [e1]
  obtain ⟨g6, s6, a6, -, o6⟩ := chunks4_mid u hpq m2
  have e2 : (u.val + 1 + 1) % 2 = u.val % 2 := by omega
  exact ⟨g6, s6, fun _ h hh => by rw [e2]; exact a6 h hh, o6⟩

/-- All blocks of queries. -/
theorem blocks (hv64 : ∀ y < 8192, I.v 64 y = 1) : ∀ (k : ℕ) (hk : k ≤ k0_t1_loop.trips), Inv I 0 S →
    Inv I k (runs (((List.finRange k0_t1_loop.trips).take k).flatMap blockOps) S) := by
  intro k
  induction k with
  | zero => intro _ H; exact H
  | succ k ih =>
    intro hk H
    have e : (List.finRange k0_t1_loop.trips).take (k + 1) = (List.finRange k0_t1_loop.trips).take k ++ [⟨k, hk⟩] := by
      rw [List.take_succ_eq_append_getElem (by rw [List.length_finRange]; exact hk), List.getElem_finRange]; rfl
    rw [e, List.flatMap_append, runs_append]
    exact block hv64 ⟨k, hk⟩ (ih (by omega) H)

/-- The attention body computes the attention. -/
theorem all_out (hv64 : ∀ y < 8192, I.v 64 y = 1) (hG : Good I S) : ∀ X < 32, ∀ h < 4, OD I h X (runs allOps S) := by
  unfold allOps
  rw [runs_append, runs_append]
  have h0 : Inv I 0 (runs preOps S) := by
    have g0 := hG.run .init
    have s0 := sc_SB (b := false) (X := 0) (c := 0) g0 0 inb_S256x8192_S128x256_0_0 inb_S8192x256_S512x128_0_0 rfl rfl
    have g1 := g0.run (.sc false ![0, 0] inb_S256x8192_S128x256_0_0 ![0, 0] inb_S8192x256_S512x128_0_0 0)
    have s1 := sc_SB (b := false) (X := 0) (c := 0) g1 1 inb_S256x8192_S128x256_0_0 inb_S8192x256_S512x128_0_128 rfl rfl
    have g2 := g1.run (.sc false ![0, 0] inb_S256x8192_S128x256_0_0 ![0, 128] inb_S8192x256_S512x128_0_128 1)
    have s2 := sc_SB (b := false) (X := 0) (c := 0) g2 2 inb_S256x8192_S128x256_128_0 inb_S8192x256_S512x128_0_0 rfl rfl
    have g3 := g2.run (.sc false ![128, 0] inb_S256x8192_S128x256_128_0 ![0, 0] inb_S8192x256_S512x128_0_0 2)
    have s3 := sc_SB (b := false) (X := 0) (c := 0) g3 3 inb_S256x8192_S128x256_128_0 inb_S8192x256_S512x128_0_128 rfl rfl
    have g4 := g3.run (.sc false ![128, 0] inb_S256x8192_S128x256_128_0 ![0, 128] inb_S8192x256_S512x128_0_128 3)
    refine ⟨g4, fun h hh => ?_, fun h => absurd h (Nat.lt_irrefl 0), fun X hX => absurd hX (Nat.not_lt_zero _)⟩
    match h, hh with
    | 0, _ => exact sc_SB_keep 3 _ _ (.inr (by decide)) (sc_SB_keep 2 _ _ (.inr (by decide)) (sc_SB_keep 1 _ _ (.inr (by decide)) s0))
    | 1, _ => exact sc_SB_keep 3 _ _ (.inr (by decide)) (sc_SB_keep 2 _ _ (.inr (by decide)) s1)
    | 2, _ => exact sc_SB_keep 3 _ _ (.inr (by decide)) s2
    | 3, _ => exact s3
  have h1 := blocks hv64 32 (by decide) h0
  have e : (List.finRange k0_t1_loop.trips).take 32 = List.finRange k0_t1_loop.trips :=
    List.take_of_length_le (by rw [List.length_finRange]; decide)
  rw [e] at h1
  obtain ⟨-, -, hA, hO⟩ := h1
  show ∀ X < 32, ∀ h < 4, OD I h X (runs postOps (runs ((List.finRange k0_t1_loop.trips).flatMap blockOps) (runs preOps S)))
  generalize runs ((List.finRange k0_t1_loop.trips).flatMap blockOps) (runs preOps S) = T at hA hO ⊢
  exact fins_mid (t := 32) (q := 1) hv64 inb_S2x4x128x256_S1x1x128x256_1_0_0_0 inb_S2x4x128x256_S1x1x128x256_1_1_0_0
    inb_S8192x256_S256x128_7936_0 packedbf16_S8192x256_S256x128_7936_0 inb_S2x4x128x256_S1x1x128x256_1_2_0_0
    inb_S2x4x128x256_S1x1x128x256_1_3_0_0 inb_S8192x256_S256x128_7936_128 packedbf16_S8192x256_S256x128_7936_128
    rfl rfl rfl rfl rfl rfl hA hO

end Cert.KernelIdeal.Attn
-- ==== Proof.Host.lean ====
module

public import proofs.«01_k».proof.Proof.Launch
public import Idealize.ShloMosaic.Lib.Claim
public import Idealize.ShloMosaic.Lib.StableHlo.RunRead
public import Idealize.ShloMosaic.Lib.Pointwise

/-! The three arrays the attention is called on, element by element. -/

@[expose] public section

set_option maxRecDepth 100000
set_option maxHeartbeats 1000000

noncomputable section

namespace Cert.KernelIdeal.Attn

open Cert.KernelIdeal Cert.KernelIdeal.Gen
open Idealize.ShloMosaic Idealize.ShloMosaic.StableHlo Idealize.ShloMosaic.TcCoe Idealize.SL.Sem

variable (m : (ℓ : Loc nD τ sig) → Buf (Elt Ideal) ℓ)

/-- An alternative on the left of an equation, by cases. -/
theorem ite_cases {α : Type} {p : Prop} [Decidable p] {x : p → α} {y : ¬p → α} {z : α} (h1 : ∀ h : p, x h = z)
    (h2 : ∀ h : ¬p, y h = z) : dite p x y = z := by
  split
  · exact h1 _
  · exact h2 _

/-- Two indices with equal coordinates. -/
theorem ix4_ext {n0 n1 n2 n3 : ℕ} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  rw [Fin.ext h0, Fin.ext h1, Fin.ext h2, Fin.ext h3]

/-- The host's scale, 1 / (8 log 2). -/
theorem scale_eq : Ideal.div 1 (Ideal.ofBits FTy.f32 1090519040#32 * Ideal.log (Ideal.ofBits FTy.f32 1073741824#32))
    = ((1 / (8 * Real.log 2) : ℝ) : EReal) := by
  have h8 : Ideal.ofBits FTy.f32 1090519040#32 = ((8 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [h8, h2, hl, ← EReal.coe_mul, Ideal.div_coe (by positivity), one_mul]

/-- The queries: heads first, scaled. -/
theorem q_at (c : Dev nD) (r : Fin 512) (n : Fin 16384) :
    (show S512x16384.Idx → EReal from V m c main_v7) (ix2 r n)
      = (show S2x8192x8x64.Idx → EReal from m (c, Proc.devRef .tc main_arg0))
          (ix4 ⟨n / 8192, by omega⟩ ⟨n % 8192, by omega⟩ ⟨r / 64, by omega⟩ ⟨r % 64, by omega⟩)
        * ((1 / (8 * Real.log 2) : ℝ) : EReal) := by
  rw [← scale_eq]
  after_reads_simp
  pointwise

/-- The keys: each head's 64 columns at the two ends of its 256, zeros between. -/
theorem k_at (c : Dev nD) (n : Fin 16384) (r : Fin 512) :
    (show S16384x512.Idx → EReal from V m c main_v14) (ix2 n r)
      = if r.val / 64 % 4 = 0 ∨ r.val / 64 % 4 = 3 then
          (show S2x8192x2x64.Idx → EReal from m (c, Proc.devRef .tc main_arg1))
            (ix4 ⟨n / 8192, by omega⟩ ⟨n % 8192, by omega⟩ ⟨r / 256, by omega⟩ ⟨r % 64, by omega⟩)
        else 0 := by
  after_reads_simp
  pointwise
  after_reads_simp
  pointwise
  refine ite_cases (fun h1 => ?_) fun h1 => ite_cases (fun h2 => ?_) fun h2 => ite_cases (fun h3 => ?_) fun h3 =>
    ite_cases (fun h4 => ?_) fun h4 => ite_cases (fun h5 => ?_) fun h5 => ite_cases (fun h6 => ?_) fun h6 =>
    ite_cases (fun h7 => ?_) fun h7 => ?_
  · refine Eq.trans ?_ (if_pos (by omega)).symm
    exact congrArg _ (ix4_ext rfl rfl (by dsimp only; omega) (by dsimp only))
  · exact (if_neg (by omega)).symm
  · exact (if_neg (by omega)).symm
  · refine Eq.trans ?_ (if_pos (by omega)).symm
    exact congrArg _ (ix4_ext rfl rfl (by dsimp only; omega) (by dsimp only; omega))
  · refine Eq.trans ?_ (if_pos (by omega)).symm
    exact congrArg _ (ix4_ext rfl rfl (by dsimp only; omega) (by dsimp only; omega))
  · exact (if_neg (by omega)).symm
  · exact (if_neg (by omega)).symm
  · refine Eq.trans ?_ (if_pos (by omega)).symm
    exact congrArg _ (ix4_ext rfl rfl (by dsimp only; omega) (by dsimp only; omega))

/-- The mask of the first of 64 lanes. -/
theorem first_lane (h1 : S64.BroadcastsInDim S1x64 ![1]) (h2 : S_.BroadcastsInDim S1x64 ![]) (e : Fin 64) :
    select (cmpi CmpIPredicate.eq (broadcastInDim S1x64 ![1] h1 (iotaInDim S64 32 0))
        (broadcastInDim S1x64 ![] h2 (constantI S_ 32 0#32)))
      (broadcastInDim S1x64 ![] h2 (constant (F := Ideal) S_ FTy.f32 1065353216#32))
      (broadcastInDim S1x64 ![] h2 (constant (F := Ideal) S_ FTy.f32 0#32)) (ix2 (0 : Fin 1) e)
      = if e.val = 0 then (1 : EReal) else 0 := by
  pointwise
  have h : IntOp.cmpi CmpIPredicate.eq (BitVec.ofNat 32 e.val) 0#32 = if e.val = 0 then 1#1 else 0#1 := by
    revert e; decide +kernel
  rw [h]
  split <;> simp [Scalar.select]

/-- The values, transposed: each head's 64 rows, a row of ones, 63 rows of zeros. -/
theorem v_at (c : Dev nD) (r : Fin 256) (n : Fin 16384)  :
    (show S256x16384.Idx → EReal from V m c main_v28) (ix2 r n)
      = if r.val % 128 < 64 then
          (show S2x8192x2x64.Idx → EReal from m (c, Proc.devRef .tc main_arg2))
            (ix4 ⟨n / 8192, by omega⟩ ⟨n % 8192, by omega⟩ ⟨r / 128, by omega⟩ ⟨r % 64, by omega⟩)
        else if r.val % 128 = 64 then 1 else 0 := by
  have hf := first_lane bcast_S64_S1x64_1 bcast_S_S1x64
  after_reads_simp
  pointwise
  after_reads_simp
  pointwise
  refine ite_cases (fun h1 => ?_) fun h1 => ite_cases (fun h2 => ?_) fun h2 => ite_cases (fun h3 => ?_) fun h3 => ?_
  · refine Eq.trans ?_ (if_pos (by omega)).symm
    exact congrArg _ (ix4_ext rfl rfl (by dsimp only; omega) (by dsimp only))
  · refine Eq.trans ?_ (if_neg (by omega)).symm
    refine (hf ⟨r.val - 64, h2⟩).trans (if_congr ?_ rfl rfl)
    dsimp only; omega
  · refine Eq.trans ?_ (if_pos (by omega)).symm
    exact congrArg _ (ix4_ext rfl rfl (by dsimp only; omega) (by dsimp only; omega))
  · refine Eq.trans ?_ (if_neg (by omega)).symm
    refine (hf ⟨r.val - 64 - 64 - 64, by omega⟩).trans (if_congr ?_ rfl rfl)
    dsimp only; omega

end Cert.KernelIdeal.Attn
-- ==== Proof.Spec.lean ====
module

public import Idealize.ShloMosaic.Lib.Pointwise

/-! The attention of the problem, over the reals: the scores of finite queries and keys, their softmax, and the weighted
    sum of the values. -/

@[expose] public section

noncomputable section

namespace Cert.Attn

open Idealize.ShloMosaic

/-- The shape of the queries: batch, position, head, lane. -/
abbrev SQ : Shape := ⟨4, ![2, 8192, 8, 64]⟩
/-- The shape of the keys and the values. -/
abbrev SK : Shape := ⟨4, ![2, 8192, 2, 64]⟩

/-- Query heads `4g`, …, `4g + 3` share the keys and values of head `g`. -/
def kvHead (h : Fin 8) : Fin 2 := ⟨h.val / 4, by omega⟩

/-- The score of query `x` and key `y`, divided by the root of the head's size. -/
def score (Q : SQ.Idx → EReal) (K : SK.Idx → EReal) (b : Fin 2) (h : Fin 8) (x y : Fin 8192) : ℝ :=
  (∑ e : Fin 64, (Q (ix4 b x h e)).toReal * (K (ix4 b y (kvHead h) e)).toReal) * (1 / 8)

/-- The softmax weight of key `y` for query `x`. -/
def weight (Q : SQ.Idx → EReal) (K : SK.Idx → EReal) (b : Fin 2) (h : Fin 8) (x y : Fin 8192) : ℝ :=
  Real.exp (score Q K b h x y) / ∑ z : Fin 8192, Real.exp (score Q K b h x z)

/-- The attention at batch `b`, head `h`, position `x`, lane `d`. -/
def att (Q : SQ.Idx → EReal) (K W : SK.Idx → EReal) (b : Fin 2) (h : Fin 8) (x : Fin 8192) (d : Fin 64) : EReal :=
  ∑ y : Fin 8192, W (ix4 b y (kvHead h) d) * (weight Q K b h x y : EReal)

/-- The attention as the output array lays it out: batch and position, then head and lane. -/
def attArr (Q : SQ.Idx → EReal) (K W : SK.Idx → EReal) : (⟨2, ![16384, 512]⟩ : Shape).Idx → EReal := fun i =>
  att Q K W ⟨(i 0).val / 8192, by have : (i 0).val < 16384 := (i 0).isLt; omega⟩ ⟨(i 1).val / 64, by have : (i 1).val < 512 := (i 1).isLt; omega⟩
    ⟨(i 0).val % 8192, by omega⟩ ⟨(i 1).val % 64, by omega⟩

end Cert.Attn
-- ==== Proof.Value.lean ====
module

public import proofs.«01_k».proof.Proof.Blocks
public import proofs.«01_k».proof.Proof.Host
public import proofs.«01_k».proof.Proof.Spec
public import Idealize.ShloMosaic.Lib.Pipeline.ValueKit.Point
public import Idealize.ShloMosaic.Lib.Pipeline.ArrRel

/-! The kernel's output array: the attention of the arguments. -/

@[expose] public section

noncomputable section

namespace Cert.KernelIdeal.Attn

open Cert.KernelIdeal Cert.KernelIdeal.Gen Cert.Attn
open Idealize.ShloMosaic Idealize.ShloMosaic.TcCoe Idealize.SL.Sem

/-! ## One block, over the reals -/

section Real

variable (Q : SQ.Idx → EReal) (K W : SK.Idx → EReal)

/-- The block's inputs at batch `b` and pair `g`. -/
def inp (b g : ℕ) : Inp where
  q l x := (rd Q ![b, x, 4 * g + l / 64, l % 64]).toReal * (1 / (8 * Real.log 2))
  k y l := if l / 64 % 4 = 0 ∨ l / 64 % 4 = 3 then (rd K ![b, y, g, l % 64]).toReal else 0
  v d y := if d < 64 then rd W ![b, y, g, d] else if d = 64 then 1 else 0

variable {Q K W}

/-- The sum over 128 lanes of which one half is zero. -/
theorem sum_half (f : ℕ → ℝ) (p : ℕ) (hp : p < 2) (h0 : ∀ l < 128, l / 64 ≠ p → f l = 0) :
    ∑ l ∈ Finset.range 128, f l = ∑ e ∈ Finset.range 64, f (64 * p + e) := by
  have h := Finset.sum_range_add f 64 64
  have hz : ∀ l < 128, l / 64 ≠ p → f l = 0 := h0
  rw [show (128 : ℕ) = 64 + 64 from rfl, h]
  rcases Nat.lt_or_ge p 1 with h1 | h1
  · have : p = 0 := by omega
    subst this
    rw [Finset.sum_eq_zero (s := Finset.range 64) (f := fun x => f (64 + x)) fun x hx =>
      hz _ (by have := Finset.mem_range.1 hx; omega) (by have := Finset.mem_range.1 hx; omega), add_zero]
    exact Finset.sum_congr rfl fun e _ => by rw [Nat.mul_zero, Nat.zero_add]
  · have : p = 1 := by omega
    subst this
    rw [Finset.sum_eq_zero (s := Finset.range 64) (f := f) fun x hx =>
      hz _ (by have := Finset.mem_range.1 hx; omega) (by have := Finset.mem_range.1 hx; omega), zero_add]

/-- The block's base-two score is the score divided by log 2. -/
theorem inp_sc (b : Fin 2) (h : Fin 8) (x y : Fin 8192) :
    (inp Q K W b.val (h.val / 4)).sc (h.val % 4) x.val y.val = score Q K b h x y * (1 / Real.log 2) := by
  unfold Inp.sc
  rw [sum_half _ (h.val % 4 % 2) (by omega)]
  · rw [Finset.sum_range]
    unfold score
    rw [mul_assoc, Finset.sum_mul]
    refine Finset.sum_congr rfl fun e _ => ?_
    dsimp only [inp]
    have hcond : (128 * (h.val % 4 % 2) + (64 * (h.val % 4 % 2) + e.val)) / 64 % 4 = 0
        ∨ (128 * (h.val % 4 % 2) + (64 * (h.val % 4 % 2) + e.val)) / 64 % 4 = 3 := by
      rcases Nat.mod_two_eq_zero_or_one (h.val % 4) with h1 | h1 <;> rw [h1] <;> omega
    rw [if_pos hcond]
    have hq : rd Q ![b.val, x.val, 4 * (h.val / 4) + (128 * (h.val % 4 / 2) + (64 * (h.val % 4 % 2) + e.val)) / 64,
        (128 * (h.val % 4 / 2) + (64 * (h.val % 4 % 2) + e.val)) % 64] = Q (ix4 b x h e) := by
      rw [← rd4 Q b x h e]
      congr 1
      rw [show 4 * (h.val / 4) + (128 * (h.val % 4 / 2) + (64 * (h.val % 4 % 2) + e.val)) / 64 = h.val by omega,
        show (128 * (h.val % 4 / 2) + (64 * (h.val % 4 % 2) + e.val)) % 64 = e.val by omega]
    have hk : rd K ![b.val, y.val, h.val / 4, (128 * (h.val % 4 % 2) + (64 * (h.val % 4 % 2) + e.val)) % 64]
        = K (ix4 b y (kvHead h) e) := by
      rw [← rd4 K b y (kvHead h) e]
      congr 1
      rw [show (128 * (h.val % 4 % 2) + (64 * (h.val % 4 % 2) + e.val)) % 64 = e.val by omega]
      rfl
    rw [hq, hk]
    have : Real.log 2 ≠ 0 := (Real.log_pos one_lt_two).ne'
    field_simp
  · intro l hl hne
    dsimp only [inp]
    rw [if_neg (by omega), zero_mul]

theorem pow_inp_sc (b : Fin 2) (h : Fin 8) (x y : Fin 8192) :
    (2 : ℝ) ^ (inp Q K W b.val (h.val / 4)).sc (h.val % 4) x.val y.val = Real.exp (score Q K b h x y) := by
  rw [inp_sc, Real.rpow_def_of_pos two_pos]
  congr 1
  have : Real.log 2 ≠ 0 := (Real.log_pos one_lt_two).ne'
  field_simp

/-- What the block's body computes is the attention. -/
theorem inp_out (b : Fin 2) (h : Fin 8) (x : Fin 8192) (d : Fin 64) :
    (inp Q K W b.val (h.val / 4)).out (h.val % 4) d.val x.val = att Q K W b h x d := by
  unfold Inp.out att weight
  rw [Finset.sum_range]
  refine Finset.sum_congr rfl fun y _ => ?_
  congr 1
  · dsimp only [inp]
    rw [if_pos d.isLt]
    exact rd4 W b y (kvHead h) d
  · rw [Finset.sum_range, pow_inp_sc, Finset.sum_congr rfl fun z _ => pow_inp_sc b h x z]

end Real

variable (m : (ℓ : Loc nD τ sig) → Buf (Elt Ideal) ℓ)

/-! ## The blocks -/

theorem idx0 (t : Fin cfg0.N) : (cfg0.win 0).index t = ![t.val % 2, t.val / 2] := by
  revert t; decide +kernel
theorem idx1 (t : Fin cfg0.N) : (cfg0.win 1).index t = ![t.val / 2, t.val % 2] := by
  revert t; decide +kernel
theorem idx2 (t : Fin cfg0.N) : (cfg0.win 2).index t = ![t.val % 2, t.val / 2] := by
  revert t; decide +kernel
theorem idx3 (t : Fin cfg0.N) : (cfg0.win 3).index t = ![t.val / 2, t.val % 2] := by
  revert t; decide +kernel

theorem lt4 (t : Fin cfg0.N) : t.val < 4 := t.isLt.trans_eq N_0

theorem q_blk (c : Dev nD) (t : Fin cfg0.N) (l : Fin 256) (x : Fin 8192) :
    (show S256x8192.Idx → EReal from iblk m c 0 t) (ix2 l x)
      = (show S512x16384.Idx → EReal from V m c main_v7)
        (ix2 ⟨256 * (t.val % 2) + l, by omega⟩ ⟨8192 * (t.val / 2) + x, by have := lt4 t; omega⟩) := by
  blk_ext [iblk, idx0 t]

theorem k_blk (c : Dev nD) (t : Fin cfg0.N) (y : Fin 8192) (l : Fin 256) :
    (show S8192x256.Idx → EReal from iblk m c 1 t) (ix2 y l)
      = (show S16384x512.Idx → EReal from V m c main_v14)
        (ix2 ⟨8192 * (t.val / 2) + y, by have := lt4 t; omega⟩ ⟨256 * (t.val % 2) + l, by omega⟩) := by
  blk_ext [iblk, idx1 t]

theorem v_blk (c : Dev nD) (t : Fin cfg0.N) (d : Fin 128) (y : Fin 8192) :
    (show S128x8192.Idx → EReal from iblk m c 2 t) (ix2 d y)
      = (show S256x16384.Idx → EReal from V m c main_v28)
        (ix2 ⟨128 * (t.val % 2) + d, by omega⟩ ⟨8192 * (t.val / 2) + y, by have := lt4 t; omega⟩) := by
  blk_ext [iblk, idx2 t]

/-- The arguments on a device. -/
def argQ (c : Dev nD) : SQ.Idx → EReal := m (c, Proc.devRef .tc main_arg0)
def argK (c : Dev nD) : SK.Idx → EReal := m (c, Proc.devRef .tc main_arg1)
def argV (c : Dev nD) : SK.Idx → EReal := m (c, Proc.devRef .tc main_arg2)

variable {m}

/-- The coordinates of an argument's element. -/
theorem rd4_at {n0 n1 n2 n3 : ℕ} (X : (⟨4, ![n0, n1, n2, n3]⟩ : Shape).Idx → EReal) {a b c d : ℕ} (i0 : Fin n0) (i1 : Fin n1)
    (i2 : Fin n2) (i3 : Fin n3) (h0 : i0.val = a) (h1 : i1.val = b) (h2 : i2.val = c) (h3 : i3.val = d) :
    X (ix4 i0 i1 i2 i3) = rd X ![a, b, c, d] := by
  subst h0 h1 h2 h3
  exact (rd4 X i0 i1 i2 i3).symm

/-- A real element read at coordinates. -/
theorem rd_toReal {s : Shape} (X : s.Idx → EReal) (h : ∀ i, ∃ r : ℝ, X i = (r : EReal)) (n : Fin s.rank → ℕ) :
    rd X n = ((rd X n).toReal : EReal) := by
  unfold rd
  split
  · rename_i hn
    obtain ⟨r, hr⟩ := h (fun a => ⟨n a, hn a⟩)
    rw [hr, EReal.toReal_coe]
  · simp

/-- The blocks of a point hold the point's inputs. -/
theorem good (c : Dev nD) (t : Fin cfg0.N) (hq : ∀ i, ∃ r : ℝ, argQ m c i = (r : EReal)) (hk : ∀ i, ∃ r : ℝ, argK m c i = (r : EReal))
    (S : St Ideal) (h0 : S.q = iblk m c 0 t) (h1 : S.k = iblk m c 1 t) (h2 : S.v = iblk m c 2 t) :
    Good (inp (argQ m c) (argK m c) (argV m c) (t.val / 2) (t.val % 2)) S := by
  have ht := lt4 t
  refine ⟨fun l hl x hx => ?_, fun y hy l hl => ?_, fun d hd y hy => ?_⟩
  · rw [h0]
    refine (rd2 (n0 := 256) (n1 := 8192) _ ⟨l, hl⟩ ⟨x, hx⟩).trans ((q_blk m c t ⟨l, hl⟩ ⟨x, hx⟩).trans ((q_at m c _ _).trans ?_))
    dsimp only [inp]
    rw [EReal.coe_mul, ← rd_toReal (argQ m c) hq]
    congr 1
    exact rd4_at (argQ m c) _ _ _ _ (by dsimp only; omega) (by dsimp only; omega) (by dsimp only; omega) (by dsimp only; omega)
  · rw [h1]
    refine (rd2 (n0 := 8192) (n1 := 256) _ ⟨y, hy⟩ ⟨l, hl⟩).trans ((k_blk m c t ⟨y, hy⟩ ⟨l, hl⟩).trans ((k_at m c _ _).trans ?_))
    dsimp only [inp]
    by_cases hc : l / 64 % 4 = 0 ∨ l / 64 % 4 = 3
    · rw [if_pos (by omega), if_pos hc, ← rd_toReal (argK m c) hk]
      exact rd4_at (argK m c) _ _ _ _ (by dsimp only; omega) (by dsimp only; omega) (by dsimp only; omega) (by dsimp only; omega)
    · rw [if_neg (by omega), if_neg hc, EReal.coe_zero]
  · rw [h2]
    refine (rd2 (n0 := 128) (n1 := 8192) _ ⟨d, by omega⟩ ⟨y, hy⟩).trans ((v_blk m c t ⟨d, by omega⟩ ⟨y, hy⟩).trans ((v_at m c _ _).trans ?_))
    dsimp only [inp]
    by_cases hc : d < 64
    · rw [if_pos (by omega), if_pos hc]
      exact rd4_at (argV m c) _ _ _ _ (by dsimp only; omega) (by dsimp only; omega) (by dsimp only; omega) (by dsimp only; omega)
    · rw [if_neg (by omega), if_neg hc]
      exact if_congr (by omega) rfl rfl

/-- What the body leaves at a point is the attention on the point's block. -/
theorem leaves_at (c : Dev nD) (t : Fin cfg0.N) (hq : ∀ i, ∃ r : ℝ, argQ m c i = (r : EReal)) (hk : ∀ i, ∃ r : ℝ, argK m c i = (r : EReal))
    (X : Vec Ideal S8192x256 .bf16) (hX : Leaves (F := Ideal) (iblk m c 0 t) (iblk m c 1 t) (iblk m c 2 t) X)
    (x : Fin 8192) (l : Fin 256) :
    X (ix2 x l) = attArr (argQ m c) (argK m c) (argV m c)
      (ix2 ⟨8192 * (t.val / 2) + x, by have := lt4 t; omega⟩ ⟨256 * (t.val % 2) + l, by omega⟩) := by
  have ht := lt4 t
  obtain ⟨S, h0, h1, h2, rfl⟩ := hX
  have hG := good c t hq hk S h0 h1 h2
  have hv : ∀ y < 8192, (inp (argQ m c) (argK m c) (argV m c) (t.val / 2) (t.val % 2)).v 64 y = 1 := fun y _ => rfl
  have h := all_out hv hG (x.val / 256) (by omega) (l.val / 64) (by omega) (x.val % 256) (by omega) (l.val % 64) (by omega)
  rw [show 256 * (x.val / 256) + x.val % 256 = x.val by omega, show 64 * (l.val / 64) + l.val % 64 = l.val by omega] at h
  refine ((rd2 (n0 := 8192) (n1 := 256) (runs allOps S).o x l).symm.trans h).trans ?_
  have h3 := inp_out (Q := argQ m c) (K := argK m c) (W := argV m c) ⟨t.val / 2, by omega⟩ ⟨4 * (t.val % 2) + l.val / 64, by omega⟩ x
    ⟨l.val % 64, by omega⟩
  dsimp only at h3
  rw [show (4 * (t.val % 2) + l.val / 64) / 4 = t.val % 2 by omega, show (4 * (t.val % 2) + l.val / 64) % 4 = l.val / 64 by omega] at h3
  refine h3.trans ?_
  unfold attArr
  have e : ∀ (b b' : Fin 2) (h h' : Fin 8) (x x' : Fin 8192) (d d' : Fin 64), b.val = b'.val → h.val = h'.val → x.val = x'.val →
      d.val = d'.val → att (argQ m c) (argK m c) (argV m c) b h x d = att (argQ m c) (argK m c) (argV m c) b' h' x' d' := by
    intro b b' h h' x x' d d' e1 e2 e3 e4
    rw [Fin.ext e1, Fin.ext e2, Fin.ext e3, Fin.ext e4]
  refine e _ _ _ _ _ _ _ _ ?_ ?_ ?_ ?_
  · show t.val / 2 = (8192 * (t.val / 2) + x.val) / 8192; omega
  · show 4 * (t.val % 2) + l.val / 64 = (256 * (t.val % 2) + l.val) / 64; omega
  · show x.val = (8192 * (t.val / 2) + x.val) % 8192; omega
  · show l.val % 64 = (256 * (t.val % 2) + l.val) % 64; omega

/-- Four blocks that hold the attention on them make up the attention. -/
theorem arr_of_blocks (c : Dev nD) (after : (w' : Fin cfg0.W) → Fin cfg0.N → (cfg0.win w').block.Idx → Elt Ideal (cfg0.win w').elt)
    (G : Buf (Elt Ideal) ((cfg0.win 3).arr.view.loc (c.tc : Thread nD τ)))
    (h : ∀ (t : Fin cfg0.N) (x : Fin 8192) (l : Fin 256), (show S8192x256.Idx → EReal from after 3 t) (ix2 x l)
      = (show S16384x512.Idx → EReal from G) (ix2 ⟨8192 * (t.val / 2) + x, by have := lt4 t; omega⟩ ⟨256 * (t.val % 2) + l, by omega⟩)) :
    ((rdat m c).withAfter after).arrAt 3 cfg0.N = G := by
  refine Pipeline.Dat.arrAt_eq_of_covers _ 3 G (by decide +kernel) (fun t hf y => ?_)
  obtain ⟨x, l, rfl⟩ : ∃ (x : Fin 8192) (l : Fin 256), y = ix2 x l :=
    ⟨y 0, y 1, funext fun a => match a with | ⟨0, _⟩ => rfl | ⟨1, _⟩ => rfl⟩
  refine Eq.trans (b := after 3 t (ix2 x l)) rfl ((h t x l).trans ?_)
  show G _ = G _
  blk_ext [idx3 t]

/-- The output array after the run. -/
theorem out_arr (c : Dev nD) (hq : ∀ i, ∃ r : ℝ, argQ m c i = (r : EReal)) (hk : ∀ i, ∃ r : ℝ, argK m c i = (r : EReal))
    {r : PUnit × MemSt nD τ sig (Elt Ideal)} (h : Pipeline.RDat.FramePost (cfgs 0) (rdat (F := Ideal) m) (V m) r) :
    r.2.mem ((c.tc : Thread nD τ).loc main_v29) = attArr (argQ m c) (argK m c) (argV m c) := by
  obtain ⟨after, hL, hA⟩ := h.exists_exact c
  refine (hA 3).trans (arr_of_blocks c after _ fun t x l => ?_)
  obtain ⟨Y, -, hX⟩ := hL 3 t (flush0_3 t)
  exact leaves_at c t hq hk (after 3 t) hX x l

end Cert.KernelIdeal.Attn
-- ==== Proof.Reference.lean ====
module

public import proofs.«01_k».proof.Defs
public import proofs.«01_k».proof.Proof.Gen.ReferenceIdeal
public import Idealize.ShloMosaic.Lib.StableHlo.RunHlo
public import Idealize.ShloMosaic.Lib.Tactic
public import Idealize.ShloMosaic.Lib.Claim
public import Idealize.ShloMosaic.Lib.Quiescent

/-! The reference's run. -/

@[expose] public section

noncomputable section

namespace Cert.ReferenceIdeal.Attn

open Cert.ReferenceIdeal
open Idealize.ShloMosaic Idealize.ShloMosaic.TcCoe Idealize.ShloMosaic.Tactic

/-- The reference ends, its arguments and the counters as they were. -/
theorem quiescent : Cert.quiescent_ReferenceIdeal := by
  intro m g _
  hlo_run
  · exact fun _ => ⟨trivial, trivial, trivial⟩
  · exact Idealize.ShloMosaic.sem_eq_zero_of_no_sems rfl _

end Cert.ReferenceIdeal.Attn

end
-- ==== Proof.RefValue.lean ====
module

public import proofs.«01_k».proof.Proof.Reference
public import proofs.«01_k».proof.Proof.Spec
public import Idealize.ShloMosaic.Lib.Claim
public import Idealize.ShloMosaic.Lib.ReduceAll

/-! The reference's result: the attention of the arguments. -/

@[expose] public section

set_option maxRecDepth 100000

noncomputable section

namespace Cert.ReferenceIdeal.Attn

open Cert.ReferenceIdeal Cert.ReferenceIdeal.Facts₀ Cert.Attn
open Idealize.ShloMosaic Idealize.ShloMosaic.TcCoe Idealize.SL.Sem

variable (Q : FVec Ideal S2x8192x8x64 .f32) (K W : FVec Ideal S2x8192x2x64 .f32)

/-- The scores. -/
def scores : FVec Ideal S2x2x4x8192x8192 .f32 :=
  mulf
    (Host.dotGeneral dot_S2x2x4x8192x64_S2x2x8192x64_S2x2x4x8192x8192_4_3_23_2_01_01 none
      (transpose S2x2x4x8192x64 [0, 2, 3, 1, 4]
        (shapeCast S2x8192x2x4x64 Q shapeCasts_S2x8192x8x64_S2x8192x2x4x64) transposes_S2x8192x2x4x64_S2x2x4x8192x64_0_2_3_1_4)
      (transpose S2x2x8192x64 [0, 2, 1, 3] K transposes_S2x8192x2x64_S2x2x8192x64_0_2_1_3))
    (broadcastInDim S2x2x4x8192x8192 ![] bcast_S_S2x2x4x8192x8192 (constant (F := Ideal) S_ FTy.f32 1040187392#32))

theorem eighth : Ideal.ofBits FTy.f32 1040187392#32 = ((1 / 8 : ℝ) : EReal) := by
  simp [Ideal.ofBits, Ideal.ieee, -EReal.coe_mul]; norm_num

theorem negInf : Ideal.ofBits FTy.f32 4286578688#32 = ⊥ := by simp [Ideal.ofBits, Ideal.ieee]

theorem real_sum {ι : Type} (t : Finset ι) (f : ι → ℝ) : (∑ i ∈ t, (f i : EReal)) = ((∑ i ∈ t, f i : ℝ) : EReal) := by
  classical
  induction t using Finset.induction_on with
  | empty => simp
  | insert a s ha ih => rw [Finset.sum_insert ha, Finset.sum_insert ha, EReal.coe_add, ih]

/-- A score of real queries and keys is the real score. -/
theorem scores_at (hQ : ∀ i, ∃ r : ℝ, Q i = (r : EReal)) (hK : ∀ i, ∃ r : ℝ, K i = (r : EReal)) (b g : Fin 2) (j : Fin 4)
    (x y : Fin 8192) (h : Fin 8) (hg : h.val / 4 = g.val) (hj : h.val % 4 = j.val) :
    scores Q K (ix5 b g j x y) = (score Q K b h x y : EReal) := by
  have hr : ∀ {s : Shape} (X : s.Idx → EReal), (∀ i, ∃ r : ℝ, X i = (r : EReal)) → ∀ i, X i = ((X i).toReal : EReal) := by
    intro s X hX i
    obtain ⟨r, e⟩ := hX i
    rw [e, EReal.toReal_coe]
  have e1 : (⟨g.val * 4 + j.val, by omega⟩ : Fin 8) = h := Fin.ext (by dsimp only; omega)
  have e2 : g = kvHead h := Fin.ext hg.symm
  pointwise [scores]
  rw [eighth]
  unfold score
  rw [EReal.coe_mul, ← real_sum]
  congr 1
  refine Finset.sum_congr rfl fun e _ => ?_
  rw [EReal.coe_mul, ← hr Q hQ, ← hr K hK]
  exact congrArg₂ (fun a b => Q a * K b) (congrArg (fun h => ix4 b x h e) e1) (congrArg (fun g => ix4 b y g e) e2)

variable (s : FVec Ideal S2x2x4x8192x8192 .f32)

/-- The largest score of each query, from −∞. -/
def rowMax : FVec Ideal S2x2x4x8192 .f32 :=
  Host.reduce FloatOps.maximumf s (constant (F := Ideal) S_ FTy.f32 4286578688#32) reducesTo_S2x2x4x8192x8192_S2x2x4x8192_d4 h_S_

/-- The same, not below −∞. -/
def top : FVec Ideal S2x2x4x8192 .f32 :=
  maximumf (broadcastInDim S2x2x4x8192 ![] bcast_S_S2x2x4x8192 (constant (F := Ideal) S_ FTy.f32 4286578688#32)) (rowMax s)

/-- A running maximum of reals from −∞ over a nonempty list is a real. -/
theorem foldl_max_real {ι : Type} (f : ι → EReal) (hf : ∀ i, ∃ r : ℝ, f i = (r : EReal)) :
    ∀ (l : List ι) (a : EReal), ((∃ r : ℝ, a = (r : EReal)) ∨ a = ⊥ ∧ l ≠ []) →
      ∃ r : ℝ, l.foldl (fun u n => max u (f n)) a = (r : EReal)
  | [], _, h => by
    rcases h with h | h
    · exact h
    · exact absurd rfl h.2
  | i :: l, a, h => by
    refine foldl_max_real f hf l _ (Or.inl ?_)
    obtain ⟨r, hr⟩ := hf i
    rcases h with ⟨u, hu⟩ | ⟨hu, -⟩
    · exact ⟨max u r, by dsimp only; rw [hu, hr]; exact (EReal.coe_strictMono.monotone.map_max).symm⟩
    · exact ⟨r, by dsimp only; rw [hu, hr, max_eq_right bot_le]⟩

/-- A reduce by maximum of reals from −∞ is a real where some element is reduced. -/
theorem reduce_max_real {s t u : Shape} {axes : List (Fin s.rank)} (x : FVec Ideal s .f32) (init : FVec Ideal u .f32)
    (h : s.ReducesTo axes t) (hu : 0 < u.numel) (hx : ∀ i, ∃ r : ℝ, x i = (r : EReal)) (hi : ∀ i, init i = (⊥ : EReal))
    (j : t.Idx) (i : s.Idx) (hd : h.drop i = j) :
    ∃ r : ℝ, Host.reduce FloatOps.maximumf x init h hu j = (r : EReal) := by
  rw [Host.reduce_eq_foldl]
  refine foldl_max_real x hx _ _ (Or.inr ⟨hi _, List.ne_nil_of_mem (a := i) ?_⟩)
  rw [List.mem_filter]
  exact ⟨List.mem_map.2 ⟨s.rowMajor i, List.mem_finRange _, Equiv.symm_apply_apply _ _⟩, by simp [hd]⟩

theorem drop_at (b g : Fin 2) (j : Fin 4) (x y : Fin 8192) :
    (reducesTo_S2x2x4x8192x8192_S2x2x4x8192_d4 : S2x2x4x8192x8192.ReducesTo [4] S2x2x4x8192).drop (ix5 b g j x y) = ix4 b g j x := by
  funext a
  match a with
  | ⟨0, _⟩ => exact Fin.ext rfl
  | ⟨1, _⟩ => exact Fin.ext rfl
  | ⟨2, _⟩ => exact Fin.ext rfl
  | ⟨3, _⟩ => exact Fin.ext rfl

theorem rowMax_real (hs : ∀ i, ∃ r : ℝ, s i = (r : EReal)) (b g : Fin 2) (j : Fin 4) (x : Fin 8192) :
    ∃ r : ℝ, rowMax s (ix4 b g j x) = (r : EReal) := by
  unfold rowMax
  exact reduce_max_real s (constant (F := Ideal) S_ FTy.f32 4286578688#32) reducesTo_S2x2x4x8192x8192_S2x2x4x8192_d4 h_S_ hs
    (fun _ => negInf) (ix4 b g j x) (ix5 b g j x 0) (drop_at b g j x 0)

theorem max_at {t : Shape} (a b : FVec Ideal t .f32) (i : t.Idx) : maximumf a b i = max (a i) (b i) := rfl

theorem bot_at (i) : broadcastInDim S2x2x4x8192 ![] bcast_S_S2x2x4x8192 (constant (F := Ideal) S_ FTy.f32 4286578688#32) i = ⊥ := by
  exact negInf

/-- The largest of real scores is a real. -/
theorem top_real (hs : ∀ i, ∃ r : ℝ, s i = (r : EReal)) (b g : Fin 2) (j : Fin 4) (x : Fin 8192) :
    ∃ r : ℝ, top s (ix4 b g j x) = (r : EReal) := by
  obtain ⟨r, hr⟩ := rowMax_real s hs b g j x
  exact ⟨r, (max_at _ _ _).trans (by rw [bot_at, hr, max_eq_right bot_le])⟩

/-- The exponentials of the shifted scores. -/
def exps : FVec Ideal S2x2x4x8192x8192 .f32 :=
  Host.exp (subf s (broadcastInDim S2x2x4x8192x8192 ![0, 1, 2, 3, 4] bcast_S2x2x4x8192x1_S2x2x4x8192x8192_0_1_2_3_4
    (broadcastInDim S2x2x4x8192x1 ![0, 1, 2, 3] bcast_S2x2x4x8192_S2x2x4x8192x1_0_1_2_3 (top s))))

theorem exps_at (b g : Fin 2) (j : Fin 4) (x y : Fin 8192) :
    exps s (ix5 b g j x y) = Ideal.exp (s (ix5 b g j x y) - top s (ix4 b g j x)) := by
  unfold exps
  generalize top s = R
  pointwise []

/-- The sum of one query's row. -/
theorem sum_at (E : FVec Ideal S2x2x4x8192x8192 .f32) (b g : Fin 2) (j : Fin 4) (x : Fin 8192) :
    Host.reduceAdd E (constant (F := Ideal) S_ FTy.f32 0#32) reducesTo_S2x2x4x8192x8192_S2x2x4x8192_d4 h_S_ (ix4 b g j x)
      = ∑ z : Fin 8192, E (ix5 b g j x z) := by
  pointwise []

/-- A row divided by its own number. -/
theorem quot_at (E : FVec Ideal S2x2x4x8192x8192 .f32) (R : FVec Ideal S2x2x4x8192 .f32) (b g : Fin 2) (j : Fin 4) (x y : Fin 8192) :
    Host.divf E (broadcastInDim S2x2x4x8192x8192 ![0, 1, 2, 3, 4] bcast_S2x2x4x8192x1_S2x2x4x8192x8192_0_1_2_3_4
      (broadcastInDim S2x2x4x8192x1 ![0, 1, 2, 3] bcast_S2x2x4x8192_S2x2x4x8192x1_0_1_2_3 R)) (ix5 b g j x y)
      = Ideal.div (E (ix5 b g j x y)) (R (ix4 b g j x)) := by
  pointwise []

/-- The softmax weights. -/
def weights : FVec Ideal S2x2x4x8192x8192 .f32 :=
  Host.divf (exps s) (broadcastInDim S2x2x4x8192x8192 ![0, 1, 2, 3, 4] bcast_S2x2x4x8192x1_S2x2x4x8192x8192_0_1_2_3_4
    (broadcastInDim S2x2x4x8192x1 ![0, 1, 2, 3] bcast_S2x2x4x8192_S2x2x4x8192x1_0_1_2_3
      (Host.reduceAdd (exps s) (constant (F := Ideal) S_ FTy.f32 0#32) reducesTo_S2x2x4x8192x8192_S2x2x4x8192_d4 h_S_)))

/-- The weights of real scores are their softmax: the shift by the largest cancels. -/
theorem weights_at (hs : ∀ i, ∃ r : ℝ, s i = (r : EReal)) (b g : Fin 2) (j : Fin 4) (x : Fin 8192) (σ : Fin 8192 → ℝ)
    (hσ : ∀ y, s (ix5 b g j x y) = (σ y : EReal)) (y : Fin 8192) :
    weights s (ix5 b g j x y) = ((Real.exp (σ y) / ∑ z, Real.exp (σ z) : ℝ) : EReal) := by
  obtain ⟨M, hM⟩ := top_real s hs b g j x
  have he : ∀ z, exps s (ix5 b g j x z) = ((Real.exp (σ z - M) : ℝ) : EReal) := fun z => by
    rw [exps_at, hσ, hM, ← EReal.coe_sub]; rfl
  have hd := (quot_at (exps s) _ b g j x y).trans (congrArg₂ Ideal.div (he y) (((sum_at (exps s) b g j x).trans
    (Finset.sum_congr rfl fun z _ => he z)).trans (real_sum _ _)))
  refine hd.trans ?_
  have hpos : 0 < ∑ z, Real.exp (σ z - M) := Finset.sum_pos (fun z _ => Real.exp_pos _) ⟨y, Finset.mem_univ _⟩
  rw [Ideal.div_coe hpos.ne', ← EReal.coe_mul]
  refine congrArg Real.toEReal ?_
  have h2 : ∑ z, Real.exp (σ z - M) = (∑ z, Real.exp (σ z)) * (Real.exp M)⁻¹ := by
    rw [Finset.sum_mul]
    exact Finset.sum_congr rfl fun z _ => by rw [Real.exp_sub, div_eq_mul_inv]
  rw [h2, Real.exp_sub]
  have h3 : 0 < ∑ z, Real.exp (σ z) := Finset.sum_pos (fun z _ => Real.exp_pos _) ⟨y, Finset.mem_univ _⟩
  have h4 := Real.exp_pos M
  field_simp

/-- The result. -/
def out (w : FVec Ideal S2x2x4x8192x8192 .f32) : FVec Ideal S16384x512 .bf16 :=
  truncf FTy.bf16
    (shapeCast S16384x512
      (transpose S2x8192x2x4x64 [0, 3, 1, 2, 4]
        (Host.dotGeneral dot_S2x2x4x8192x8192_S2x2x8192x64_S2x2x4x8192x64_4_2_23_3_01_01 none w
          (transpose S2x2x8192x64 [0, 2, 1, 3] W transposes_S2x8192x2x64_S2x2x8192x64_0_2_1_3))
        transposes_S2x2x4x8192x64_S2x8192x2x4x64_0_3_1_2_4)
      shapeCasts_S2x8192x2x4x64_S16384x512) bitsLt_bf16_f32

theorem out_at (w : FVec Ideal S2x2x4x8192x8192 .f32) (n : Fin 16384) (r : Fin 512) :
    out W w (ix2 n r) = ∑ y : Fin 8192, w (ix5 ⟨n.val / 8192, by omega⟩ ⟨r.val / 256, by omega⟩ ⟨r.val / 64 % 4, by omega⟩ ⟨n.val % 8192, by omega⟩ y)
      * W (ix4 ⟨n.val / 8192, by omega⟩ y ⟨r.val / 256, by omega⟩ ⟨r.val % 64, by omega⟩) := by
  pointwise [out]

/-- The weighted sum of the values is the attention. -/
theorem out_att (w : FVec Ideal S2x2x4x8192x8192 .f32)
    (hw : ∀ (b g : Fin 2) (j : Fin 4) (x y : Fin 8192) (h : Fin 8), h.val / 4 = g.val → h.val % 4 = j.val →
      w (ix5 b g j x y) = (weight Q K b h x y : EReal)) (n : Fin 16384) (r : Fin 512) :
    out W w (ix2 n r) = att Q K W ⟨n.val / 8192, by omega⟩ ⟨r.val / 64, by omega⟩ ⟨n.val % 8192, by omega⟩ ⟨r.val % 64, by omega⟩ := by
  refine (out_at W w n r).trans ?_
  unfold att
  refine Finset.sum_congr rfl fun y _ => ?_
  have e : (⟨r.val / 256, by omega⟩ : Fin 2) = kvHead ⟨r.val / 64, by omega⟩ := Fin.ext (by show r.val / 256 = r.val / 64 / 4; omega)
  rw [hw _ _ _ _ _ ⟨r.val / 64, by omega⟩ (by dsimp only; omega) rfl, mul_comm, e]

/-- Real scores are real at every index. -/
theorem scores_real (hQ : ∀ i, ∃ r : ℝ, Q i = (r : EReal)) (hK : ∀ i, ∃ r : ℝ, K i = (r : EReal)) (i : S2x2x4x8192x8192.Idx) :
    ∃ r : ℝ, scores Q K i = (r : EReal) := by
  obtain ⟨b, g, j, x, y, rfl⟩ : ∃ (b g : Fin 2) (j : Fin 4) (x y : Fin 8192), i = ix5 b g j x y :=
    ⟨i 0, i 1, i 2, i 3, i 4, funext fun a => match a with
      | ⟨0, _⟩ => rfl | ⟨1, _⟩ => rfl | ⟨2, _⟩ => rfl | ⟨3, _⟩ => rfl | ⟨4, _⟩ => rfl⟩
  exact ⟨_, scores_at Q K hQ hK b g j x y ⟨4 * g.val + j.val, by omega⟩ (by dsimp only; omega) (by dsimp only; omega)⟩

/-- The reference computes the attention. -/
theorem out_eq (hQ : ∀ i, ∃ r : ℝ, Q i = (r : EReal)) (hK : ∀ i, ∃ r : ℝ, K i = (r : EReal)) :
    out W (weights (scores Q K)) = attArr Q K W := by
  have hw := weights_at _ (scores_real Q K hQ hK)
  have hs := scores_at Q K hQ hK
  generalize weights (scores Q K) = w at hw ⊢
  generalize scores Q K = s at hw hs
  funext i
  obtain ⟨n, r, rfl⟩ : ∃ (n : Fin 16384) (r : Fin 512), i = ix2 n r :=
    ⟨i 0, i 1, funext fun a => match a with | ⟨0, _⟩ => rfl | ⟨1, _⟩ => rfl⟩
  exact out_att Q K W w (fun b g j x y h hg hj => hw b g j x _ (fun y => hs b g j x y h hg hj) y) n r

end Cert.ReferenceIdeal.Attn
-- ==== Proof.PreFinite.lean ====
module

public import proofs.«01_k».proof.Defs
public import Idealize.ShloMosaic.Lib.Pointwise
public import Idealize.ShloMosaic.Lib.StableHlo.Predicate
public import Idealize.ShloMosaic.Lib.ReduceAll

/-! What the precondition says: every query and every key is a real number. -/

@[expose] public section

noncomputable section

namespace Cert.Pre_finite.Attn

open Cert.Pre_finite Idealize.ShloMosaic

/-- The side conditions of the precondition's operations. -/
instance facts : Cert.Pre_finite.Facts where
  bcast_S_S2x8192x8x64 := by decide
  reducesTo_S2x8192x8x64_S_d0_1_2_3 := by decide
  h_S_ := by decide
  bcast_S_S2x8192x2x64 := by decide
  reducesTo_S2x8192x2x64_S_d0_1_2_3 := by decide

/-- An extended real below infinity in absolute value is a real. -/
theorem real_of_abs_lt {x : EReal} (h : max x (-x) < ⊤) : ∃ r : ℝ, x = (r : EReal) := by
  induction x with
  | bot => simp at h
  | top => simp at h
  | coe r => exact ⟨r, rfl⟩

/-- The printed infinity. -/
theorem inf_eq : Ideal.ofBits FTy.f32 2139095040#32 = ⊤ := by simp [Ideal.ofBits, Ideal.ieee]

/-- If every element passes the test `|x| < ∞`, every element is a real. -/
theorem real_of_all {s : Shape} {axes : List (Fin s.rank)} (x : FVec Ideal s .f32) (hb : S_.BroadcastsInDim s ![])
    (hr : s.ReducesTo axes S_) (hu : 0 < S_.numel) (j : S_.Idx)
    (h : Host.reduce IntOp.andi (cmpf .olt (Host.absf x) (broadcastInDim s ![] hb (constant (F := Ideal) S_ .f32 2139095040#32)))
      (constantI S_ 1 1#1) hr hu j = 1#1) (i : s.Idx) : ∃ r : ℝ, x i = (r : EReal) := by
  haveI : Subsingleton S_.Idx := ⟨fun a b => funext fun k => k.elim0⟩
  have e := Host.reduce_andi_all _ _ hr hu j h i
  refine real_of_abs_lt ?_
  have e2 : Ideal.cmp .olt (max (x i : EReal) (-(x i : EReal))) (Ideal.ofBits FTy.f32 2139095040#32) = 1#1 := e
  rw [inf_eq] at e2
  by_contra hc
  simp [Ideal.cmp, hc] at e2

/-- The two bits of a conjunction that is 1. -/
theorem and_bits {s : Shape} {a b : IVec s 1} {j : s.Idx} (h : andi a b j = 1#1) : a j = 1#1 ∧ b j = 1#1 := by
  have h' : a j &&& b j = 1#1 := h
  generalize a j = x at *
  generalize b j = y at *
  revert x y
  decide

/-- The precondition makes every query and every key a real. -/
theorem real_of_pre {q : FVec Ideal S2x8192x8x64 .f32} {k v : FVec Ideal S2x8192x2x64 .f32}
    (h : Cert.Pre_finite.fn (F := Ideal) q k v = fun _ => 1#1) :
    (∀ i, ∃ r : ℝ, q i = (r : EReal)) ∧ ∀ i, ∃ r : ℝ, k i = (r : EReal) := by
  have h0 := congrFun h (fun a => a.elim0)
  unfold Cert.Pre_finite.fn at h0
  dsimp only at h0
  obtain ⟨h1, h2⟩ := and_bits h0
  exact ⟨real_of_all q _ _ _ _ h1, real_of_all k _ _ _ _ h2⟩

end Cert.Pre_finite.Attn
-- ==== Proof.Algebraic.lean ====
module

public import proofs.«01_k».proof.Proof.Value
public import proofs.«01_k».proof.Proof.RefValue
public import proofs.«01_k».proof.Proof.PreFinite
public import Idealize.ShloMosaic.Lib.Claim

/-! Kernel and reference end with the same array: both hold the attention. -/

@[expose] public section

set_option maxRecDepth 100000

noncomputable section

namespace Cert.Attn

open Idealize.ShloMosaic Idealize.ShloMosaic.TcCoe Idealize.ShloMosaic.Tactic Idealize.SL.Sem

section Reference

variable (m : (ℓ : Loc Cert.ReferenceIdeal.nD Cert.ReferenceIdeal.τ Cert.ReferenceIdeal.sig) → Buf (Elt Ideal) ℓ)

/-- The reference's queries. -/
def refQ (c : Dev Cert.ReferenceIdeal.nD) : SQ.Idx → EReal :=
  m ((c.tc : Thread Cert.ReferenceIdeal.nD Cert.ReferenceIdeal.τ).loc Cert.ReferenceIdeal.main_arg0)

/-- The reference's keys. -/
def refK (c : Dev Cert.ReferenceIdeal.nD) : SK.Idx → EReal :=
  m ((c.tc : Thread Cert.ReferenceIdeal.nD Cert.ReferenceIdeal.τ).loc Cert.ReferenceIdeal.main_arg1)

/-- The reference's values. -/
def refV (c : Dev Cert.ReferenceIdeal.nD) : SK.Idx → EReal :=
  m ((c.tc : Thread Cert.ReferenceIdeal.nD Cert.ReferenceIdeal.τ).loc Cert.ReferenceIdeal.main_arg2)

/-- The reference's run ends with the attention of its arguments. -/
theorem reference_run (g : Dev Cert.ReferenceIdeal.nD → PrngReg)
    (rQ : ∀ c i, ∃ r : ℝ, refQ m c i = (r : EReal)) (rK : ∀ c i, ∃ r : ℝ, refK m c i = (r : EReal)) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v21)
          = attArr (refQ m c) (refK m c) (refV m c)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) := by
  hlo_run
  exact Eq.trans rfl (Cert.ReferenceIdeal.Attn.out_eq (refQ m c) (refK m c) (refV m c) (rQ c) (rK c))

end Reference

/-- On finite queries and keys kernel and reference end with the same array. -/
theorem algebraic : Cert.algebraic_KernelIdeal_ReferenceIdeal_pre_finite := by
  intro m g m' g' hpre hagree
  have hr := fun c => Cert.Pre_finite.Attn.real_of_pre (hpre c)
  refine ⟨fun c => attArr (Cert.KernelIdeal.Attn.argQ m c) (Cert.KernelIdeal.Attn.argK m c) (Cert.KernelIdeal.Attn.argV m c), ?_, ?_⟩
  · exact (θ_run _ _ _).mono (fun r h c =>
      ⟨Cert.KernelIdeal.Attn.out_arr c (hr c).1 (hr c).2 h.1, Cert.KernelIdeal.Attn.args_kept h.1 c⟩) (Cert.KernelIdeal.Attn.run_main m g)
  · have eQ : ∀ c, refQ m' c = Cert.KernelIdeal.Attn.argQ m c := fun c => (hagree c).1
    have eK : ∀ c, refK m' c = Cert.KernelIdeal.Attn.argK m c := fun c => (hagree c).2.1
    have eV : ∀ c, refV m' c = Cert.KernelIdeal.Attn.argV m c := fun c => (hagree c).2.2
    refine (θ_run _ _ _).mono (fun r h c => ⟨(h c).1.trans ?_, (h c).2⟩)
      (reference_run m' g' (fun c => eQ c ▸ (hr c).1) (fun c => eK c ▸ (hr c).2))
    rw [eQ c, eK c, eV c]

end Cert.Attn

end
-- ==== Proof.Post.RunA.lean ====
module

public import proofs.«01_k».proof.Proof.Gen.PostIdeal.Frame.Runs

/-! The run of the body at the first grid point, from the generated frame module: here with the equations that name
   the ring's slots, blocks and cells, which its transfers need. -/

@[expose] public section

-- membership in a rectangle of production extents (`View.cover_of_tiled`): the elaborator's structural look
-- recurses once per coordinate of the long axes
set_option maxRecDepth 16384

noncomputable section

namespace Cert.PostIdeal.Post

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) :
    { L8 : List (View.Piece (Elt F) S512x1024 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_post (grid0.coords t) arg1 harg1 (Memref.whole main_v7) (Memref.isWhole_whole _) arg3 harg3 arg4 harg4 arg5 harg5 arg6 harg6 arg7 harg7 arg8 harg8 arg9 harg9 arg10 harg10 arg11 harg11 scM0_1 (Memref.isWhole_whole _) cc0_scratch2) K } := by
  refine ⟨?_, fun W K => ?run⟩
  case run =>
    haveI : Fact (cond0_0 (grid0.coords t)) := ⟨hc0⟩
    haveI : Fact (cond0_1 (grid0.coords t)) := ⟨hc1⟩
    simp only [cc0_post_eq_skeleton]; unfold cc0_post_skel
    simp only [k0_part1_eq_skeleton, k0_part2_eq_skeleton, k0_part3_eq_skeleton, k0_part4_eq_skeleton, k0_part5_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hcanon6 := canon0_0_7 t
    have hcanon7 := canon0_0_9 t hc1
    have hcanon8 := canon0_0_10 t hc1
    have hcanon9 := canon0_0_11 t hc0 hc1
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 32 t.val)).1 $$ Hw0_0_0
    icases Hsp0_0_0 with ⟨Hh0_0_0, Hr0_0_0⟩
    ihave Hsp0_0_1 := (src0_0_split c fh0 (Ring.sl 3 (t.val + 1)) (Ring.bk 32 (t.val + 1))).1 $$ Hw0_0_1
    icases Hsp0_0_1 with ⟨Hh0_0_1, Hr0_0_1⟩
    ihave Hsp0_0_2 := (src0_0_split c fh0 (Ring.sl 3 (t.val + 2)) (Ring.bk 32 (t.val + 2))).1 $$ Hw0_0_2
    icases Hsp0_0_2 with ⟨Hh0_0_2, Hr0_0_2⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 32 t.val)).2; isplitl [Hh0_0_0]; · iexact Hh0_0_0
      iexact Hr0_0_0
    iexists _; iexact HW

end Cert.PostIdeal.Post

end
-- ==== Proof.Post.RunB.lean ====
module

public import proofs.«01_k».proof.Proof.Post.RunA

/-! The run of the body at the middle grid points, from the generated frame module: here with the equations that name
   the ring's slots, blocks and cells, which its transfers need. -/

@[expose] public section

-- membership in a rectangle of production extents (`View.cover_of_tiled`): the elaborator's structural look
-- recurses once per coordinate of the long axes
set_option maxRecDepth 16384

noncomputable section

namespace Cert.PostIdeal.Post

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 29: 29 of 32), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) :
    { L8 : List (View.Piece (Elt F) S512x1024 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ Ring.inflight (flightW0_0 c fh0) (Ring.sl 3 t.val) (Ring.bk 32 t.val) ∗ Ring.inflight (flightW0_0 c fh0) (Ring.sl 3 (t.val + 1)) (Ring.bk 32 (t.val + 1)) ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_post (grid0.coords t) arg1 harg1 (Memref.whole main_v7) (Memref.isWhole_whole _) arg3 harg3 arg4 harg4 arg5 harg5 arg6 harg6 arg7 harg7 arg8 harg8 arg9 harg9 arg10 harg10 arg11 harg11 scM0_1 (Memref.isWhole_whole _) cc0_scratch2) K } := by
  refine ⟨?_, fun W K => ?run⟩
  case run =>
    haveI : Fact (¬cond0_0 (grid0.coords t)) := ⟨hc0⟩
    haveI : Fact (cond0_1 (grid0.coords t)) := ⟨hc1⟩
    simp only [cc0_post_eq_skeleton]; unfold cc0_post_skel
    simp only [k0_part1_eq_skeleton, k0_part2_eq_skeleton, k0_part3_eq_skeleton, k0_part4_eq_skeleton, k0_part5_eq_skeleton]
    have hcanon0 := canon0_0_7 t
    have hcanon1 := canon0_0_9 t hc1
    have hcanon2 := canon0_0_10 t hc1
    have hcanon3 := canon0_0_12 t hc0 hc1
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 32 (t.val + 2))).1 $$ Hw0_0_2
    icases Hsp0_0_2 with ⟨Hh0_0_2, Hr0_0_2⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    iexists _; iexact HW

end Cert.PostIdeal.Post

end
-- ==== Proof.Post.RunC.lean ====
module

public import proofs.«01_k».proof.Proof.Post.RunB

/-! The run of the body at the last two grid points, where no further rows are fetched; from the generated frame module. -/

@[expose] public section

-- membership in a rectangle of production extents (`View.cover_of_tiled`): the elaborator's structural look
-- recurses once per coordinate of the long axes
set_option maxRecDepth 16384

noncomputable section

namespace Cert.PostIdeal.Post

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken: points 30, 31), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : ¬cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) :
    { L8 : List (View.Piece (Elt F) S512x1024 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_post (grid0.coords t) arg1 harg1 (Memref.whole main_v7) (Memref.isWhole_whole _) arg3 harg3 arg4 harg4 arg5 harg5 arg6 harg6 arg7 harg7 arg8 harg8 arg9 harg9 arg10 harg10 arg11 harg11 scM0_1 (Memref.isWhole_whole _) cc0_scratch2) K } := by
  refine ⟨?_, fun W K => ?run⟩
  case run =>
    haveI : Fact (¬cond0_0 (grid0.coords t)) := ⟨hc0⟩
    haveI : Fact (¬cond0_1 (grid0.coords t)) := ⟨hc1⟩
    simp only [cc0_post_eq_skeleton]; unfold cc0_post_skel
    simp only [k0_part1_eq_skeleton, k0_part2_eq_skeleton, k0_part3_eq_skeleton, k0_part4_eq_skeleton, k0_part5_eq_skeleton]
    have hcanon0 := canon0_0_7 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ff0_0_0, Hf0_0_0, Hrf0_0_0⟩, Hro0_0_1, ⟨Hc0_0_2, ⟨%fs0_0_2, Hs0_0_2, Hw0_0_2⟩⟩, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    iexists _; iexact HW

end Cert.PostIdeal.Post

end
-- ==== Proof.Post.Frame.lean ====
module

public import proofs.«01_k».proof.Proof.Post.RunC
public import Idealize.ShloMosaic.Lib.Claim

/-! The frame of the second kernel, from its generated module: what the output block holds point by point, and the run
   that leaves the arguments and the counters as they were. -/

@[expose] public section

-- membership in a rectangle of production extents (`View.cover_of_tiled`): the elaborator's structural look
-- recurses once per coordinate of the long axes
set_option maxRecDepth 16384

noncomputable section

namespace Cert.PostIdeal.Post

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 8 tile its block (1 store of `S512x1024`, checked by the kernel's evaluation: Lib/Ring.lean `Piece.tiledL`, linear in the pieces, through a loop's `@[irreducible]` trip theorem too), so they cover it. -/
theorem cover0_A_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) (y : S512x1024.Idx) :
    ∃ pc ∈ (kernelRun0_A c t arg1 harg1 arg3 harg3 arg4 harg4 arg5 harg5 arg6 harg6 arg7 harg7 arg8 harg8 arg9 harg9 arg10 harg10 arg11 harg11 hc0 hc1 x0 x1 x2 x3 x4 x5 x6 x7 fh0).1, y ∈ pc.1.set :=
  View.cover_of_tiledL (kernelRun0_A c t arg1 harg1 arg3 harg3 arg4 harg4 arg5 harg5 arg6 harg6 arg7 harg7 arg8 harg8 arg9 harg9 arg10 harg10 arg11 harg11 hc0 hc1 x0 x1 x2 x3 x4 x5 x6 x7 fh0).1 S512x1024.size (by sl_kernel_rfl) y

/-- What case A leaves in output 8's staging buffer: its pieces read back over junk. -/
def out0_A_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) : Vec F S512x1024 .f32 :=
  VO0_8.read (Elt F) (VO0_8.writes (Elt F) VO0_8.junk (kernelRun0_A c t arg1 harg1 arg3 harg3 arg4 harg4 arg5 harg5 arg6 harg6 arg7 harg7 arg8 harg8 arg9 harg9 arg10 harg10 arg11 harg11 hc0 hc1 x0 x1 x2 x3 x4 x5 x6 x7 fh0).1)

/-- Case B's pieces for output 8 tile its block (1 store of `S512x1024`, checked by the kernel's evaluation: Lib/Ring.lean `Piece.tiledL`, linear in the pieces, through a loop's `@[irreducible]` trip theorem too), so they cover it. -/
theorem cover0_B_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) (y : S512x1024.Idx) :
    ∃ pc ∈ (kernelRun0_B c t arg1 harg1 arg3 harg3 arg4 harg4 arg5 harg5 arg6 harg6 arg7 harg7 arg8 harg8 arg9 harg9 arg10 harg10 arg11 harg11 hc0 hc1 x0 x1 x2 x3 x4 x5 x6 x7 fh0).1, y ∈ pc.1.set :=
  View.cover_of_tiledL (kernelRun0_B c t arg1 harg1 arg3 harg3 arg4 harg4 arg5 harg5 arg6 harg6 arg7 harg7 arg8 harg8 arg9 harg9 arg10 harg10 arg11 harg11 hc0 hc1 x0 x1 x2 x3 x4 x5 x6 x7 fh0).1 S512x1024.size (by sl_kernel_rfl) y

/-- What case B leaves in output 8's staging buffer: its pieces read back over junk. -/
def out0_B_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) : Vec F S512x1024 .f32 :=
  VO0_8.read (Elt F) (VO0_8.writes (Elt F) VO0_8.junk (kernelRun0_B c t arg1 harg1 arg3 harg3 arg4 harg4 arg5 harg5 arg6 harg6 arg7 harg7 arg8 harg8 arg9 harg9 arg10 harg10 arg11 harg11 hc0 hc1 x0 x1 x2 x3 x4 x5 x6 x7 fh0).1)

/-- Case C's pieces for output 8 tile its block (1 store of `S512x1024`, checked by the kernel's evaluation: Lib/Ring.lean `Piece.tiledL`, linear in the pieces, through a loop's `@[irreducible]` trip theorem too), so they cover it. -/
theorem cover0_C_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : ¬cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) (y : S512x1024.Idx) :
    ∃ pc ∈ (kernelRun0_C c t arg1 harg1 arg3 harg3 arg4 harg4 arg5 harg5 arg6 harg6 arg7 harg7 arg8 harg8 arg9 harg9 arg10 harg10 arg11 harg11 hc0 hc1 x0 x1 x2 x3 x4 x5 x6 x7 fh0).1, y ∈ pc.1.set :=
  View.cover_of_tiledL (kernelRun0_C c t arg1 harg1 arg3 harg3 arg4 harg4 arg5 harg5 arg6 harg6 arg7 harg7 arg8 harg8 arg9 harg9 arg10 harg10 arg11 harg11 hc0 hc1 x0 x1 x2 x3 x4 x5 x6 x7 fh0).1 S512x1024.size (by sl_kernel_rfl) y

/-- What case C leaves in output 8's staging buffer: its pieces read back over junk. -/
def out0_C_8 (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole) (hc0 : ¬cond0_0 (grid0.coords t)) (hc1 : ¬cond0_1 (grid0.coords t))
    (x0 : Vec F S512x512 .bf16) (x1 : Vec F S512x1024 .f32) (x2 : Vec F S512x1024 .f32) (x3 : Vec F S512x1024 .f32) (x4 : Vec F S1024x1024 .f32) (x5 : Vec F S8x128x128 .f32) (x6 : Vec F S128x512 .f32) (x7 : Vec F S1x1024 .f32) (fh0 : HbBuf0 (F := F) c hbM0_0) : Vec F S512x1024 .f32 :=
  VO0_8.read (Elt F) (VO0_8.writes (Elt F) VO0_8.junk (kernelRun0_C c t arg1 harg1 arg3 harg3 arg4 harg4 arg5 harg5 arg6 harg6 arg7 harg7 arg8 harg8 arg9 harg9 arg10 harg10 arg11 harg11 hc0 hc1 x0 x1 x2 x3 x4 x5 x6 x7 fh0).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32
  | 0, hn => out0_A_8 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v7)
  | n + 1, hn =>
    if h0 : (n + 1) % 32 = 0 then
      if h1 : (n + 1) < 30 then
        out0_A_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v7)
      else
        False.elim (by have hN : n + 1 < 32 := lt_of_lt_of_eq hn (show cfg0.N = 32 from N_0); omega)
    else
      if h1 : (n + 1) < 30 then
        out0_B_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v7)
      else
        out0_C_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v7)

/-- `outsAt0` at a point of case A: that case's contents. -/
theorem outsAt0_A (c : Dev nD) (t : Fin cfg0.N) (h0 : t.val % 32 = 0) (h1 : t.val < 30) :
    outsAt0 m c t.val t.isLt = out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v7) := by
  obtain ⟨n, hn⟩ := t
  cases n with
  | zero => exact rfl
  | succ n => exact (dif_pos h0).trans ((dif_pos h1).trans rfl)

/-- `outsAt0` at a point of case B: that case's contents. -/
theorem outsAt0_B (c : Dev nD) (t : Fin cfg0.N) (h0 : ¬t.val % 32 = 0) (h1 : t.val < 30) :
    outsAt0 m c t.val t.isLt = out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (V m c main_v7) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents. -/
theorem outsAt0_C (c : Dev nD) (t : Fin cfg0.N) (h0 : ¬t.val % 32 = 0) (h1 : ¬t.val < 30) :
    outsAt0 m c t.val t.isLt = out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (V m c main_v7) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ r, prngReg c r) ∗ ringAt0_0 c (V m c main_v7) k)

/-- The proof data of the one pipeline on core `c`: the arrays as the region finds them (`V`); after the body at
    point `t` each input's buffer at its block and the outputs' at `outsAt0`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [after0_0, after0_1, after0_2, after0_3, after0_4, after0_5, after0_6, after0_7, after0_8]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 32 := N_0
  have hN : t.val < 32 := lt_of_lt_of_eq t.isLt (show cfg0.N = 32 from N_0)
  by_cases h0 : t.val % 32 = 0
  · by_cases h1 : t.val < 30
    · rw [outsAt0_A m c t h0 h1]
      unfold out0_A_8
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq3' _ _ _ t.val hK00 (by decide : 3 ≤ 32), Ring.At3_one' _ _ _ _ t.val hK00 (by decide : 3 ≤ 32)]
      iintro ⟨⟨HS0, Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c t _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v7)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, HS0, Hfa0_0', Hfb0_0', Hfc0_0', ⟨%W', HW'⟩⟩
      isplitl [HS0 Hg Hfa0_0' Hfb0_0' Hfc0_0']
      · isplitl [HS0]; · iexact HS0
        isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    · exfalso; omega
  · by_cases h1 : t.val < 30
    · rw [outsAt0_B m c t h0 h1]
      unfold out0_B_8
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨HS0, Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c t _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (V m c main_v7)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, HS0, Hfa0_0', Hfb0_0', Hfc0_0', ⟨%W', HW'⟩⟩
      isplitl [HS0 Hg Hfa0_0' Hfb0_0' Hfc0_0']
      · isplitl [HS0]; · iexact HS0
        isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    · rw [outsAt0_C m c t h0 h1]
      unfold out0_C_8
      have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      iintro ⟨⟨HS0, Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c t _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (V m c main_v7)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, HS0, Hfa0_0', Hfb0_0', Hfc0_0', ⟨%W', HW'⟩⟩
      isplitl [HS0 Hg Hfa0_0' Hfb0_0' Hfc0_0']
      · isplitl [HS0]; · iexact HS0
        isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HR0_0⟩, Hg, ⟨Hq0, Hq1, Hq2⟩, Hh0⟩
  isplitl [HS0]; · iexact HS0
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 32 by rw [N_0]]
  iintro ⟨HS0, Hg, HR0_0⟩
  ihave HX0_0 := (ring0_0_out (F := F) m c) $$ HR0_0
  icases HX0_0 with ⟨HR0_0, ⟨Hq0, Hq1, Hq2⟩, Hh0⟩
  isplitl [HS0 HR0_0]
  · isplitl [HS0]; · iexact HS0
    iexact HR0_0
  isplitl [Hg]
  · iexact Hg
  isplitl [Hq0 Hq1 Hq2]
  · isplitl [Hq0]; · iexact Hq0
    isplitl [Hq1]; · iexact Hq1
    iexact Hq2
  iexact Hh0

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_PostIdeal`'s statement (Defs.lean) at any `F` — Proof.lean cites it at `Bits`:
    `theorem Cert.Proof.claim : Cert.Claim := ⟨Cert.PostIdeal.Gen.facts, fun m ρ _ => Cert.PostIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.PostIdeal.Post

end
-- ==== Proof.Post.Frames.lean ====
module

public import proofs.«01_k».proof.Proof.Post.Frame
public import proofs.«01_k».proof.Proof.Gen.PostIdeal
public import proofs.«01_k».proof.Proof.Gen.Post
public import proofs.«01_k».proof.Defs

/-! The second kernel as compiled runs too: it is the idealized program read at the bit patterns. -/

@[expose] public section

noncomputable section

namespace Cert.PostFrames

open Idealize.ShloMosaic Idealize.ShloMosaic.TcCoe

set_option maxRecDepth 100000

/-- The two bodies are one program. -/
theorem post_eq : @Cert.Post.cc0_post Bits _ _ = @Cert.PostIdeal.cc0_post Bits _ _ := rfl

/-- The two body tables are one. -/
theorem defs₀_eq : Cert.Post.defs₀ (F := Bits) = Cert.PostIdeal.defs₀ (F := Bits) := by
  unfold Cert.Post.defs₀ Cert.PostIdeal.defs₀
  congr 1
  funext l x
  match l with
  | 0 =>
    exact congrFun rfl _
  | ⟨_ + 1, h⟩ => exact absurd h (Nat.not_lt.2 (Nat.le_add_left _ _))

/-- The two programs are one. -/
theorem defs_eq : Cert.Post.defs (F := Bits) = Cert.PostIdeal.defs (F := Bits) := by
  unfold Cert.Post.defs
  rw [defs₀_eq]
  rfl
theorem main_eq : Cert.Post.main (F := Bits) = Cert.PostIdeal.main (F := Bits) := rfl

/-- The idealized kernel ends, its arguments and the counters as they were. -/
theorem ideal : Cert.quiescent_PostIdeal := fun m g _ => Cert.PostIdeal.Post.frame m g

/-- The compiled kernel does. -/
theorem compiled : Cert.quiescent_Post := fun m g _ => by
  rw [defs_eq, main_eq]
  exact Cert.PostIdeal.Post.frame (F := Bits) m g

end Cert.PostFrames

end
-- ==== Proof.Post.Mix.lean ====
module

public import proofs.«01_k».proof.Proof.Gen.PostIdeal.Skeleton
public import Idealize.ShloMosaic.Lib.Pointwise

/-! The mixing of a chunk of 128 rows: two groups' columns at a time, each group's half of the lanes. -/

@[expose] public section

noncomputable section

namespace Cert.PostIdeal.Post

open Cert.PostIdeal Cert.PostIdeal.Gen
open Idealize.ShloMosaic

section Defs

variable {F : FTy → Type} [FloatOps F]

/-- 128 mixed columns: two groups' weights side by side, times their columns one above the other. -/
def slab (w : FVec F S128x256 .bf16) (v : FVec F S128x128 .bf16) : FVec F S128x128 .f32 :=
  matmul dot_S128x256_S256x128_S128x128_1_0_0_1_n_n none w
    (concatenate S256x128 0 [⟨S128x128, select k0_pay4 v (k0_pay5 (F := F))⟩, ⟨S128x128, select k0_pay4 (k0_pay5 (F := F)) v⟩]
      concatenates_S128x128_S128x128_S256x128_d0)
    (constant S128x128 .f32 0x00000000#32)

/-- All 512 mixed columns of a chunk, the bias added. -/
def chunk (w0 w1 w2 w3 : FVec F S128x256 .bf16) (v0 v1 v2 v3 : FVec F S128x128 .bf16) (b : Vec F S128x512 .f32) :
    FVec F S128x512 .f32 :=
  shapeCast S128x512
    (addf
      (concatenate S128x512 1 [⟨S128x128, slab w0 v0⟩, ⟨S128x128, slab w1 v1⟩, ⟨S128x128, slab w2 v2⟩, ⟨S128x128, slab w3 v3⟩]
        concatenates_S128x128_S128x128_S128x128_S128x128_S128x512_d1)
      (shapeCast S128x512 b shapeCasts_S128x512_S128x512))
    shapeCasts_S128x512_S128x512

variable (v : Vec F S512x512 .bf16) (w0 w1 w2 w3 : FVec F S128x256 .bf16) (y z : Vec F S1x128x128 .f32) (b : Vec F S128x512 .f32)

theorem pay10_eq : k0_pay10 v k0_pay4 k0_pay5 w0 w1 w2 y z b = chunk w0 w1 w2 (k0_pay9 y z)
    (extractStridedSlice S128x128 ![0, 0] v slices_S512x512_o0_0_S128x128)
    (extractStridedSlice S128x128 ![0, 128] v slices_S512x512_o0_128_S128x128)
    (extractStridedSlice S128x128 ![0, 256] v slices_S512x512_o0_256_S128x128)
    (extractStridedSlice S128x128 ![0, 384] v slices_S512x512_o0_384_S128x128) b := rfl

theorem pay14_eq : k0_pay14 v k0_pay4 k0_pay5 w2 w3 (k0_pay11 v k0_pay4 k0_pay5 w0) (k0_pay12 v k0_pay4 k0_pay5 w1) (k0_pay13 v) b
    = chunk w0 w1 w2 w3
    (extractStridedSlice S128x128 ![128, 0] v slices_S512x512_o128_0_S128x128)
    (extractStridedSlice S128x128 ![128, 128] v slices_S512x512_o128_128_S128x128)
    (extractStridedSlice S128x128 ![128, 256] v slices_S512x512_o128_256_S128x128)
    (extractStridedSlice S128x128 ![128, 384] v slices_S512x512_o128_384_S128x128) b := rfl

theorem pay15_eq : k0_pay15 v k0_pay4 k0_pay5 w0 w1 w2 w3 b = chunk w0 w1 w2 w3
    (extractStridedSlice S128x128 ![256, 0] v slices_S512x512_o256_0_S128x128)
    (extractStridedSlice S128x128 ![256, 128] v slices_S512x512_o256_128_S128x128)
    (extractStridedSlice S128x128 ![256, 256] v slices_S512x512_o256_256_S128x128)
    (extractStridedSlice S128x128 ![256, 384] v slices_S512x512_o256_384_S128x128) b := rfl

theorem pay17_eq : k0_pay17 v k0_pay4 k0_pay5 w0 w1 w2 w3 (k0_pay16 v) b = chunk w0 w1 w2 w3
    (extractStridedSlice S128x128 ![384, 0] v slices_S512x512_o384_0_S128x128)
    (extractStridedSlice S128x128 ![384, 128] v slices_S512x512_o384_128_S128x128)
    (extractStridedSlice S128x128 ![384, 256] v slices_S512x512_o384_256_S128x128)
    (extractStridedSlice S128x128 ![384, 384] v slices_S512x512_o384_384_S128x128) b := rfl

end Defs

/-- The mask of the first 64 lanes. -/
theorem lane_mask (l : Fin 128) : IntOp.cmpi CmpIPredicate.slt (BitVec.ofNat 32 l.val) 64#32 = if l.val < 64 then 1#1 else 0#1 := by
  revert l; decide +kernel

theorem slab_at (y z : Vec Ideal S1x128x128 .f32) (v : FVec Ideal S128x128 .bf16) (i l : Fin 128) :
    slab (F := Ideal) (k0_pay6 y z) v (ix2 i l)
      = ∑ k : Fin 128, (if l.val < 64 then y (ix3 0 i k) else z (ix3 0 i k)) * v (ix2 k l) := by
  pointwise [slab, k0_pay6, k0_pay4, k0_pay5]
  rw [lane_mask]
  split <;> simp [Scalar.select]

theorem chunk_at (w0 w1 w2 w3 : FVec Ideal S128x256 .bf16) (v0 v1 v2 v3 : FVec Ideal S128x128 .bf16) (b : Vec Ideal S128x512 .f32)
    (i : Fin 128) (e : Fin 512) : chunk (F := Ideal) w0 w1 w2 w3 v0 v1 v2 v3 b (ix2 i e) =
      (if h0 : e.val < 128 then slab w0 v0 (ix2 i ⟨e.val, h0⟩) else if h1 : e.val < 256 then slab w1 v1 (ix2 i ⟨e.val - 128, by omega⟩)
       else if h2 : e.val < 384 then slab w2 v2 (ix2 i ⟨e.val - 256, by omega⟩) else slab w3 v3 (ix2 i ⟨e.val - 384, by omega⟩))
      + b (ix2 i e) := by
  generalize hs0 : slab w0 v0 = s0
  generalize hs1 : slab w1 v1 = s1
  generalize hs2 : slab w2 v2 = s2
  generalize hs3 : slab w3 v3 = s3
  unfold chunk
  rw [hs0, hs1, hs2, hs3]
  pointwise
  refine congrArg (· + b (ix2 i e)) ?_
  refine dite_congr rfl (fun _ => rfl) fun h0 => dite_congr (propext (by omega)) (fun _ => rfl) fun h1 =>
    dite_congr (propext (by omega)) (fun _ => congrArg _ (congrArg _ (Fin.ext (by dsimp only; omega)))) fun h2 =>
      congrArg _ (congrArg _ (Fin.ext (by dsimp only; omega)))

end Cert.PostIdeal.Post

end
-- ==== Proof.Post.Spec.lean ====
module

public import Idealize.ShloMosaic.Lib.Pointwise

/-! One row of the block's result, from the row's activations: two projections, their gated sum, the residual and the norm. -/

@[expose] public section

noncomputable section

namespace Cert.Post.Row

open Idealize.ShloMosaic

/-- A row times a matrix. -/
def proj {n : ℕ} (x : Fin n → EReal) (w : Fin n → Fin 1024 → EReal) (d : Fin 1024) : EReal := ∑ e, x e * w e d

/-- The two branches' gated sum. -/
def merged (ya yb g0 g1 : Fin 1024 → EReal) (d : Fin 1024) : EReal := g0 d * ya d + g1 d * yb d

/-- The residual added to the projected sum. -/
def summed (x y : Fin 1024 → EReal) (w : Fin 1024 → Fin 1024 → EReal) (d : Fin 1024) : EReal := x d + proj y w d

/-- A row over the root of its mean square, scaled. -/
def normed (p f : Fin 1024 → EReal) (d : Fin 1024) : EReal :=
  p d * Ideal.rsqrt (Ideal.div (∑ k, p k * p k) (Ideal.ofBits FTy.f32 0x44800000#32) + Ideal.ofBits FTy.f32 0x358637BD#32) * f d

/-- The row's result. -/
def row (a u : Fin 512 → EReal) (g0 g1 x f : Fin 1024 → EReal) (wa wg : Fin 512 → Fin 1024 → EReal)
    (wo : Fin 1024 → Fin 1024 → EReal) : Fin 1024 → EReal :=
  normed (summed x (merged (proj a wa) (proj u wg) g0 g1) wo) f

end Cert.Post.Row

end
-- ==== Proof.Post.Payload.lean ====
module

public import proofs.«01_k».proof.Proof.Post.Mix
public import proofs.«01_k».proof.Proof.Post.Spec

/-! The projections, the gated sum and the norm of the kernel, element by element. -/

@[expose] public section

noncomputable section

namespace Cert.PostIdeal.Post

open Cert.PostIdeal Cert.PostIdeal.Gen Cert.Post.Row
open Idealize.ShloMosaic

theorem pay3_at (a r : Vec Ideal S512x512 .bf16) (w : Vec Ideal S512x1024 .f32) (p : Fin 512) (d : Fin 1024) :
    k0_pay3 (F := Ideal) (k0_pay2 a) r w (ix2 p d) = proj (fun e => a (ix2 p e) * r (ix2 p e)) (fun e d => w (ix2 e d)) d := by
  unfold proj
  pointwise [k0_pay3, k0_pay2]

theorem pay18_at (r : Vec Ideal S512x512 .bf16) (v : Vec Ideal S512x512 .f32) (w : Vec Ideal S512x1024 .f32) (p : Fin 512) (d : Fin 1024) :
    k0_pay18 (F := Ideal) r v w (ix2 p d) = proj (fun e => r (ix2 p e) * v (ix2 p e)) (fun e d => w (ix2 e d)) d := by
  unfold proj
  pointwise [k0_pay18]

theorem pay1_at (ya yb g0 : FVec Ideal S512x1024 .f32) (g1 : Vec Ideal S512x1024 .bf16) (x : Vec Ideal S512x1024 .f32)
    (w : Vec Ideal S1024x1024 .f32) (f : Vec Ideal S1x1024 .f32) (p : Fin 512) (d : Fin 1024) :
    k0_pay1 (F := Ideal) ya yb g0 g1 x w f (ix2 p d) =
      normed (summed (fun d => x (ix2 p d)) (merged (fun d => ya (ix2 p d)) (fun d => yb (ix2 p d)) (fun d => g0 (ix2 p d))
        (fun d => g1 (ix2 p d))) (fun e d => w (ix2 e d))) (fun d => f (ix2 0 d)) d := by
  unfold normed summed merged proj
  pointwise [k0_pay1]

end Cert.PostIdeal.Post

end
-- ==== Proof.Post.Block.lean ====
module

public import proofs.«01_k».proof.Proof.Post.Mix
public import proofs.«01_k».proof.Proof.Post.Payload
public import Idealize.ShloMosaic.Lib.Pipeline.Value

/-! What a grid point computes, as a function of the rows it holds and the weights. -/

@[expose] public section

set_option maxRecDepth 100000
set_option maxHeartbeats 1000000

noncomputable section

namespace Cert.PostIdeal.Post

open Cert.PostIdeal Cert.PostIdeal.Gen Cert.Post.Row
open Idealize.ShloMosaic

section Defs
variable {F : FTy → Type} [FloatOps F]

/-- The scratch rows: four chunks of 128 mixed rows, one stored after another. -/
def mixPieces (v : Vec F S512x512 .bf16) (ws : Vec F S8x128x128 .f32) (b : Vec F S128x512 .f32) : List (View.Piece (Elt F) S512x512 .f32) :=
  let y0 := View.ld ws (Rect.unit ![0, 0, 0] S1x128x128.size inb_S8x128x128_S1x128x128_0_0_0)
  let y1 := View.ld ws (Rect.unit ![1, 0, 0] S1x128x128.size inb_S8x128x128_S1x128x128_1_0_0)
  let y2 := View.ld ws (Rect.unit ![2, 0, 0] S1x128x128.size inb_S8x128x128_S1x128x128_2_0_0)
  let y3 := View.ld ws (Rect.unit ![3, 0, 0] S1x128x128.size inb_S8x128x128_S1x128x128_3_0_0)
  let y4 := View.ld ws (Rect.unit ![4, 0, 0] S1x128x128.size inb_S8x128x128_S1x128x128_4_0_0)
  let y5 := View.ld ws (Rect.unit ![5, 0, 0] S1x128x128.size inb_S8x128x128_S1x128x128_5_0_0)
  let y6 := View.ld ws (Rect.unit ![6, 0, 0] S1x128x128.size inb_S8x128x128_S1x128x128_6_0_0)
  let y7 := View.ld ws (Rect.unit ![7, 0, 0] S1x128x128.size inb_S8x128x128_S1x128x128_7_0_0)
  let w0 := k0_pay6 y0 y1
  let w1 := k0_pay7 y2 y3
  let w2 := k0_pay8 y4 y5
  let w3 := k0_pay9 y6 y7
  [⟨Rect.unit ![384, 0] S128x512.size inb_S512x512_S128x512_384_0, k0_pay17 v k0_pay4 k0_pay5 w0 w1 w2 w3 (k0_pay16 v) b⟩,
   ⟨Rect.unit ![256, 0] S128x512.size inb_S512x512_S128x512_256_0, k0_pay15 v k0_pay4 k0_pay5 w0 w1 w2 w3 b⟩,
   ⟨Rect.unit ![128, 0] S128x512.size inb_S512x512_S128x512_128_0,
      k0_pay14 v k0_pay4 k0_pay5 w2 w3 (k0_pay11 v k0_pay4 k0_pay5 w0) (k0_pay12 v k0_pay4 k0_pay5 w1) (k0_pay13 v) b⟩,
   ⟨Rect.unit ![0, 0] S128x512.size inb_S512x512_S128x512_0_0, k0_pay10 v k0_pay4 k0_pay5 w0 w1 w2 y6 y7 b⟩]

/-- The block a grid point stores: `R` its streamed rows, `x0` its attention rows, `x1` its residual rows, the rest weights. -/
def block (R : Vec F S512x3584 .bf16) (x0 : Vec F S512x512 .bf16) (x1 x2 x3 : Vec F S512x1024 .f32) (x4 : Vec F S1024x1024 .f32)
    (x5 : Vec F S8x128x128 .f32) (x6 : Vec F S128x512 .f32) (x7 : Vec F S1x1024 .f32) : Vec F S512x1024 .f32 :=
  k0_pay1
    (k0_pay3 (k0_pay2 x0) (View.ld R (Rect.unit ![0, 0] S512x512.size inb_S512x3584_S512x512_0_0)) x2)
    (k0_pay18 (View.ld R (Rect.unit ![0, 512] S512x512.size inb_S512x3584_S512x512_0_512))
      (View.canon (mixPieces (View.ld R (Rect.unit ![0, 1024] S512x512.size inb_S512x3584_S512x512_0_1024)) x5 x6)) x3)
    (k0_pay19 (View.ld R (Rect.unit ![0, 1536] S512x1024.size inb_S512x3584_S512x1024_0_1536)))
    (View.ld R (Rect.unit ![0, 2560] ![512, 1024] inb_S512x3584_S512x1024_0_2560)) x1 x4 x7

end Defs

/-- The mixed entry. -/
def mixAt (v : Fin 512 → Fin 512 → EReal) (ws : Vec Ideal S8x128x128 .f32) (b : Vec Ideal S128x512 .f32) (s e : Fin 512) : EReal :=
  ∑ k : Fin 128, ws (ix3 ⟨e / 64, by omega⟩ ⟨s % 128, by omega⟩ k) * v ⟨s / 128 * 128 + k, by omega⟩ e + b (ix2 ⟨s % 128, by omega⟩ e)

theorem wgt_at (ws : Vec Ideal S8x128x128 .f32) (j : Nat) (hj : j < 8) (inb : ∀ a, (![j, 0, 0] : Fin 3 → Nat) a + S1x128x128.size a ≤ S8x128x128.size a)
    (i k : Fin 128) : View.ld ws (Rect.unit ![j, 0, 0] S1x128x128.size inb) (ix3 0 i k) = ws (ix3 ⟨j, hj⟩ i k) := by
  refine congrArg ws (funext fun a => Fin.ext ?_)
  match a with
  | 0 => show j + 1 * 0 = j; omega
  | 1 => show 0 + 1 * i.val = i.val; omega
  | 2 => show 0 + 1 * k.val = k.val; omega

theorem part_at {n : Nat} (R : Vec Ideal S512x3584 .bf16) (o : Nat) (ho : o + n ≤ 3584)
    (inb : ∀ a, (![0, o] : Fin 2 → Nat) a + (![512, n] : Fin 2 → Nat) a ≤ S512x3584.size a)
    (p : Fin 512) (e : Fin n) : View.ld R (Rect.unit ![0, o] ![512, n] inb) (ix2 p e) = R (ix2 p ⟨o + e, by omega⟩) := by
  refine congrArg R (funext fun a => Fin.ext ?_)
  match a with
  | 0 => show 0 + 1 * p.val = p.val; omega
  | 1 => show o + 1 * e.val = o + e.val; omega

/-- A chunk whose weights are the eight groups' in pairs. -/
theorem chunk_mix (v : Vec Ideal S512x512 .bf16) (ws : Vec Ideal S8x128x128 .f32) (b : Vec Ideal S128x512 .f32) (n : Nat) (hn : n < 4)
    (h0 : S512x512.Slices ![n * 128, 0] S128x128) (h1 : S512x512.Slices ![n * 128, 128] S128x128)
    (h2 : S512x512.Slices ![n * 128, 256] S128x128) (h3 : S512x512.Slices ![n * 128, 384] S128x128) (i : Fin 128) (e : Fin 512) :
    chunk (F := Ideal)
      (k0_pay6 (View.ld ws (Rect.unit ![0, 0, 0] S1x128x128.size inb_S8x128x128_S1x128x128_0_0_0))
        (View.ld ws (Rect.unit ![1, 0, 0] S1x128x128.size inb_S8x128x128_S1x128x128_1_0_0)))
      (k0_pay7 (View.ld ws (Rect.unit ![2, 0, 0] S1x128x128.size inb_S8x128x128_S1x128x128_2_0_0))
        (View.ld ws (Rect.unit ![3, 0, 0] S1x128x128.size inb_S8x128x128_S1x128x128_3_0_0)))
      (k0_pay8 (View.ld ws (Rect.unit ![4, 0, 0] S1x128x128.size inb_S8x128x128_S1x128x128_4_0_0))
        (View.ld ws (Rect.unit ![5, 0, 0] S1x128x128.size inb_S8x128x128_S1x128x128_5_0_0)))
      (k0_pay9 (View.ld ws (Rect.unit ![6, 0, 0] S1x128x128.size inb_S8x128x128_S1x128x128_6_0_0))
        (View.ld ws (Rect.unit ![7, 0, 0] S1x128x128.size inb_S8x128x128_S1x128x128_7_0_0)))
      (extractStridedSlice S128x128 ![n * 128, 0] v h0) (extractStridedSlice S128x128 ![n * 128, 128] v h1)
      (extractStridedSlice S128x128 ![n * 128, 256] v h2) (extractStridedSlice S128x128 ![n * 128, 384] v h3) b (ix2 i e)
      = mixAt (fun s e => v (ix2 s e)) ws b ⟨n * 128 + i, by omega⟩ e := by
  have key : ∀ (j : Nat) (hj : j < 4) (ia : ∀ a, (![2 * j, 0, 0] : Fin 3 → Nat) a + S1x128x128.size a ≤ S8x128x128.size a)
      (ib : ∀ a, (![2 * j + 1, 0, 0] : Fin 3 → Nat) a + S1x128x128.size a ≤ S8x128x128.size a)
      (h : S512x512.Slices ![n * 128, j * 128] S128x128) (hl : j * 128 ≤ e.val) (hu : e.val < j * 128 + 128),
      slab (F := Ideal) (k0_pay6 (View.ld ws (Rect.unit ![2 * j, 0, 0] S1x128x128.size ia))
        (View.ld ws (Rect.unit ![2 * j + 1, 0, 0] S1x128x128.size ib)))
        (extractStridedSlice S128x128 ![n * 128, j * 128] v h) (ix2 i ⟨e - j * 128, by omega⟩)
      = ∑ k : Fin 128, ws (ix3 ⟨e / 64, by omega⟩ i k) * v (ix2 ⟨n * 128 + k, by omega⟩ e) := by
    intro j hj ia ib h hl hu
    rw [slab_at]
    refine Finset.sum_congr rfl fun k _ => ?_
    rw [wgt_at ws (2 * j) (by omega) ia, wgt_at ws (2 * j + 1) (by omega) ib]
    congr 1
    · split
      · next hh => exact congrArg ws (congrArg (fun q => ix3 q i k) (Fin.ext (by simp only at hh ⊢; omega)))
      · next hh => exact congrArg ws (congrArg (fun q => ix3 q i k) (Fin.ext (by simp only at hh ⊢; omega)))
    · refine congrArg v (funext fun a => Fin.ext ?_)
      match a with
      | 0 => rfl
      | 1 => show j * 128 + (e.val - j * 128) = e.val; omega
  rw [chunk_at]
  unfold mixAt
  have hs : (⟨(n * 128 + i.val) % 128, Nat.mod_lt _ (by decide)⟩ : Fin 128) = i := Fin.ext (by show (n * 128 + i.val) % 128 = i.val; omega)
  have hd : (n * 128 + i.val) / 128 * 128 = n * 128 := by omega
  simp only [hs, hd]
  congr 1
  split
  · next h => exact key 0 (by omega) _ _ h0 (by omega) (by omega)
  · split
    · next h h' => exact key 1 (by omega) _ _ h1 (by omega) (by omega)
    · split
      · next h h' h'' => exact key 2 (by omega) _ _ h2 (by omega) (by omega)
      · next h h' h'' => exact key 3 (by omega) _ _ h3 (by omega) (by omega)

/-- The mixed rows as an array. -/
def mixArr (v : Fin 512 → Fin 512 → EReal) (ws : Vec Ideal S8x128x128 .f32) (b : Vec Ideal S128x512 .f32) : S512x512.Idx → Elt Ideal .f32 :=
  fun y => mixAt v ws b (y 0) (y 1)

theorem row_split (n : Nat) (hn : n < 4)
    (inb : ∀ a, (![n * 128, 0] : Fin 2 → Nat) a + S128x512.size a ≤ S512x512.size a) (i : Fin 128) (e : Fin 512) :
    (Rect.unit (s := S512x512) ![n * 128, 0] S128x512.size inb).emb (ix2 i e) = (ix2 (⟨n * 128 + i, by omega⟩ : Fin 512) e : S512x512.Idx) := by
  refine funext fun a => Fin.ext ?_
  match a with
  | 0 => show n * 128 + 1 * i.val = n * 128 + i.val; omega
  | 1 => show 0 + 1 * e.val = e.val; omega

/-- The four chunks are all the rows. -/
theorem chunks_cover (w3 w2 w1 w0 : S128x512.Idx → Elt Ideal .f32) (s e : Fin 512) :
    ∃ p ∈ ([⟨Rect.unit ![384, 0] S128x512.size inb_S512x512_S128x512_384_0, w3⟩,
      ⟨Rect.unit ![256, 0] S128x512.size inb_S512x512_S128x512_256_0, w2⟩,
      ⟨Rect.unit ![128, 0] S128x512.size inb_S512x512_S128x512_128_0, w1⟩,
      ⟨Rect.unit ![0, 0] S128x512.size inb_S512x512_S128x512_0_0, w0⟩] : List (View.Piece (Elt Ideal) S512x512 .f32)),
      (ix2 s e : S512x512.Idx) ∈ p.1.set := by
  have key : ∀ (o : Nat) (inb : ∀ a, (![o, 0] : Fin 2 → Nat) a + S128x512.size a ≤ S512x512.size a), o ≤ s.val → s.val < o + 128 →
      (ix2 s e : S512x512.Idx) ∈ (Rect.unit (s := S512x512) ![o, 0] S128x512.size inb).set := by
    intro o inb h1 h2
    refine Rect.mem_set_unit.mpr fun a => ?_
    match a with
    | 0 => exact ⟨h1, h2⟩
    | 1 => exact ⟨Nat.zero_le _, by show e.val < 0 + 512; omega⟩
  by_cases h3 : 384 ≤ s.val
  · exact ⟨_, List.Mem.head _, key 384 inb_S512x512_S128x512_384_0 h3 (by omega)⟩
  by_cases h2 : 256 ≤ s.val
  · exact ⟨_, List.Mem.tail _ (List.Mem.head _), key 256 inb_S512x512_S128x512_256_0 h2 (by omega)⟩
  by_cases h1 : 128 ≤ s.val
  · exact ⟨_, List.Mem.tail _ (List.Mem.tail _ (List.Mem.head _)), key 128 inb_S512x512_S128x512_128_0 h1 (by omega)⟩
  · exact ⟨_, List.Mem.tail _ (List.Mem.tail _ (List.Mem.tail _ (List.Mem.head _))), key 0 inb_S512x512_S128x512_0_0 (by omega) (by omega)⟩

/-- The scratch rows read back are the mixed ones. -/
theorem mix_at (v : Vec Ideal S512x512 .bf16) (ws : Vec Ideal S8x128x128 .f32) (b : Vec Ideal S128x512 .f32) (s e : Fin 512) :
    View.canon (mixPieces (F := Ideal) v ws b) (ix2 s e) = mixAt (fun s e => v (ix2 s e)) ws b s e := by
  refine View.canon_apply_of_pieces (mixArr (fun s e => v (ix2 s e)) ws b) _ ?_ (ix2 s e) ?_
  · intro p hp
    have h := hp
    unfold mixPieces at h
    simp only [List.mem_cons, List.mem_nil_iff, or_false] at h
    rcases h with rfl | rfl | rfl | rfl
    · intro x
      obtain ⟨i, e, rfl⟩ : ∃ (i : Fin 128) (e : Fin 512), x = ix2 i e := ⟨x 0, x 1, funext fun a => by match a with | 0 => rfl | 1 => rfl⟩
      refine Eq.trans ?_ (congrArg (mixArr (fun s e => v (ix2 s e)) ws b) (row_split 3 (by omega) inb_S512x512_S128x512_384_0 i e)).symm
      refine Eq.trans (congrFun (pay17_eq _ _ _ _ _ _) _) ?_
      exact chunk_mix v ws b 3 (by omega) _ _ _ _ i e
    · intro x
      obtain ⟨i, e, rfl⟩ : ∃ (i : Fin 128) (e : Fin 512), x = ix2 i e := ⟨x 0, x 1, funext fun a => by match a with | 0 => rfl | 1 => rfl⟩
      refine Eq.trans ?_ (congrArg (mixArr (fun s e => v (ix2 s e)) ws b) (row_split 2 (by omega) inb_S512x512_S128x512_256_0 i e)).symm
      refine Eq.trans (congrFun (pay15_eq _ _ _ _ _ _) _) ?_
      exact chunk_mix v ws b 2 (by omega) _ _ _ _ i e
    · intro x
      obtain ⟨i, e, rfl⟩ : ∃ (i : Fin 128) (e : Fin 512), x = ix2 i e := ⟨x 0, x 1, funext fun a => by match a with | 0 => rfl | 1 => rfl⟩
      refine Eq.trans ?_ (congrArg (mixArr (fun s e => v (ix2 s e)) ws b) (row_split 1 (by omega) inb_S512x512_S128x512_128_0 i e)).symm
      refine Eq.trans (congrFun (pay14_eq _ _ _ _ _ _) _) ?_
      exact chunk_mix v ws b 1 (by omega) _ _ _ _ i e
    · intro x
      obtain ⟨i, e, rfl⟩ : ∃ (i : Fin 128) (e : Fin 512), x = ix2 i e := ⟨x 0, x 1, funext fun a => by match a with | 0 => rfl | 1 => rfl⟩
      refine Eq.trans ?_ (congrArg (mixArr (fun s e => v (ix2 s e)) ws b) (row_split 0 (by omega) inb_S512x512_S128x512_0_0 i e)).symm
      refine Eq.trans (congrFun (pay10_eq _ _ _ _ _ _ _) _) ?_
      exact chunk_mix v ws b 0 (by omega) _ _ _ _ i e
  · exact chunks_cover _ _ _ _ s e

/-- The stored block, row by row. -/
theorem block_at (R : Vec Ideal S512x3584 .bf16) (x0 : Vec Ideal S512x512 .bf16) (x1 x2 x3 : Vec Ideal S512x1024 .f32) (x4 : Vec Ideal S1024x1024 .f32)
    (x5 : Vec Ideal S8x128x128 .f32) (x6 : Vec Ideal S128x512 .f32) (x7 : Vec Ideal S1x1024 .f32) (p : Fin 512) (d : Fin 1024) :
    block (F := Ideal) R x0 x1 x2 x3 x4 x5 x6 x7 (ix2 p d) =
      row (fun e => x0 (ix2 p e) * R (ix2 p ⟨0 + e, by omega⟩))
        (fun e => R (ix2 p ⟨512 + e, by omega⟩) * mixAt (fun s e => R (ix2 s ⟨1024 + e, by omega⟩)) x5 x6 p e)
        (fun d => R (ix2 p ⟨1536 + d, by omega⟩)) (fun d => R (ix2 p ⟨2560 + d, by omega⟩)) (fun d => x1 (ix2 p d))
        (fun d => x7 (ix2 0 d)) (fun e d => x2 (ix2 e d)) (fun e d => x3 (ix2 e d)) (fun e d => x4 (ix2 e d)) d := by
  unfold block row
  rw [pay1_at]
  simp only [pay3_at, pay18_at, mix_at]
  have e0 : ∀ e : Fin 512, View.ld R (Rect.unit ![0, 0] S512x512.size inb_S512x3584_S512x512_0_0) (ix2 p e) = R (ix2 p ⟨0 + e, by omega⟩) :=
    fun e => part_at R 0 (by omega) _ p e
  have e1 : ∀ e : Fin 512, View.ld R (Rect.unit ![0, 512] S512x512.size inb_S512x3584_S512x512_0_512) (ix2 p e) = R (ix2 p ⟨512 + e, by omega⟩) :=
    fun e => part_at R 512 (by omega) _ p e
  have e2 : ∀ s e : Fin 512, View.ld R (Rect.unit ![0, 1024] S512x512.size inb_S512x3584_S512x512_0_1024) (ix2 s e) = R (ix2 s ⟨1024 + e, by omega⟩) :=
    fun s e => part_at R 1024 (by omega) _ s e
  have e3 : ∀ d : Fin 1024, k0_pay19 (F := Ideal) (View.ld R (Rect.unit ![0, 1536] S512x1024.size inb_S512x3584_S512x1024_0_1536)) (ix2 p d)
      = R (ix2 p ⟨1536 + d, by omega⟩) := fun d => part_at R 1536 (by omega) _ p d
  have e4 : ∀ d : Fin 1024, View.ld R (Rect.unit ![0, 2560] ![512, 1024] inb_S512x3584_S512x1024_0_2560) (ix2 p d)
      = R (ix2 p ⟨2560 + d, by omega⟩) := fun d => part_at R 2560 (by omega) _ p d
  simp only [e0, e1, e2, e3, e4]

/-! The runs found in the three cases leave that block. -/

theorem readAt_unread {σ : Space} {S : Shape} {e : EltTy} {M : Memref sig .tc σ S e} (h : M.IsWhole) (x : S.Idx → Elt Ideal e) (r : Rect S) :
    View.readAt (Elt Ideal) M.view r.toLoadRect (h.unread x) = View.ld x r := by
  show View.ld (M.view.read (Elt Ideal) (h.unread x)) r = _
  rw [h.read_unread]

theorem readCov_whole {σ : Space} {S : Shape} {e : EltTy} (v : View sig .tc σ S e) (x : S.Idx → Elt Ideal e) (r : Rect S) :
    v.readCov (Val := Elt Ideal) [⟨Rect.whole S, x⟩] r.toLoadRect = View.ld x r := by
  rw [View.readCov_eq_canon']
  exact congrArg (fun y => View.ld y r) (View.canon_unit_zero (S := S) rfl (fun a => by simp) x)

end Cert.PostIdeal.Post

end
-- ==== Proof.Post.Blocks.lean ====
module

public import proofs.«01_k».proof.Proof.Post.Frame
public import Idealize.ShloMosaic.Lib.Pipeline.Value

/-! The output array block by block, from the generated module: block `t` of the final array is what point `t` wrote. -/

@[expose] public section

noncomputable section

namespace Cert.PostIdeal.Post

open Cert.PostIdeal Cert.PostIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t.val t.isLt) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 32 = 0) (h1 : t.val < 30) :
    (dats m 0 c).flushed 8 t = (cfg0.win 8).cut (grid0.coords t) (out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v7)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 32 = 0) (h1 : t.val < 30) :
    (dats m 0 c).flushed 8 t = (cfg0.win 8).cut (grid0.coords t) (out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (V m c main_v7)) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 32 = 0) (h1 : ¬t.val < 30) :
    (dats m 0 c).flushed 8 t = (cfg0.win 8).cut (grid0.coords t) (out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (V m c main_v7)) := by
  simp only [flushed8, outsAt0_C m c t h0 h1]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v13) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 2 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 2).trans (((dats m 0 c).arrAt_in 2 rfl _).trans ((A_eq m c 2).trans (V_main_arg6 m c)))

/-- After the frame run, argument `main_arg7` is as launched: input window 5 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 5).trans (((dats m 0 c).arrAt_in 5 rfl _).trans ((A_eq m c 5).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 3 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 3).trans (((dats m 0 c).arrAt_in 3 rfl _).trans ((A_eq m c 3).trans (V_main_arg9 m c)))

/-- After the frame run, argument `main_arg10` is as launched: input window 4 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 4).trans (((dats m 0 c).arrAt_in 4 rfl _).trans ((A_eq m c 4).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.PostIdeal.Post

end
-- ==== Proof.Post.Out.lean ====
module

public import proofs.«01_k».proof.Proof.Post.Block
public import proofs.«01_k».proof.Proof.Post.Blocks
import all proofs.«01_k».proof.Proof.Post.RunA
import all proofs.«01_k».proof.Proof.Post.RunB
import all proofs.«01_k».proof.Proof.Post.RunC

/-! The run of a grid point leaves its block: the same in the first point, the middle ones and the last two. -/

@[expose] public section

set_option maxRecDepth 100000
set_option maxHeartbeats 1000000

noncomputable section

namespace Cert.PostIdeal.Post

open Cert.PostIdeal Cert.PostIdeal.Gen Cert.Post.Row
open Idealize.ShloMosaic Idealize.ShloMosaic.TcCoe

/-- The rows streamed for point `t`. -/
def streamed (c : Dev nD) (t : Fin cfg0.N) (fh0 : HbBuf0 (F := Ideal) c hbM0_0) : Vec Ideal S512x3584 .bf16 :=
  View.read (Elt Ideal) (srcB0_0 (Ring.bk 32 t.val)).view fh0

theorem hz : (![0, 0] : Fin 2 → Nat) = fun _ => 0 := funext fun a => by match a with | 0 => rfl | 1 => rfl

/-- A whole load reads the block. -/
theorem load_whole {σ : Space} {e : EltTy} {a b : Nat} {M : Memref sig .tc σ ⟨2, ![a, b]⟩ e} (h : M.IsWhole)
    (x : (⟨2, ![a, b]⟩ : Shape).Idx → Elt Ideal e) (inb : ∀ i, (![0, 0] : Fin 2 → Nat) i + (![a, b] : Fin 2 → Nat) i ≤ (⟨2, ![a, b]⟩ : Shape).size i) :
    View.readAt (Elt Ideal) M.view (Rect.unit ![0, 0] ![a, b] inb).toLoadRect (h.unread x) = x :=
  (readAt_unread h x _).trans (View.ld_unit_zero hz inb x)

/-- In the middle points. -/
theorem out_B (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole)
    (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole)
    (hc0 : ¬cond0_0 (grid0.coords t)) (hc1 : cond0_1 (grid0.coords t))
    (x0 : Vec Ideal S512x512 .bf16) (x1 : Vec Ideal S512x1024 .f32) (x2 : Vec Ideal S512x1024 .f32) (x3 : Vec Ideal S512x1024 .f32) (x4 : Vec Ideal S1024x1024 .f32) (x5 : Vec Ideal S8x128x128 .f32) (x6 : Vec Ideal S128x512 .f32) (x7 : Vec Ideal S1x1024 .f32) (fh0 : HbBuf0 (F := Ideal) c hbM0_0) :
    out0_B_8 (F := Ideal) c t arg1 harg1 arg3 harg3 arg4 harg4 arg5 harg5 arg6 harg6 arg7 harg7 arg8 harg8 arg9 harg9 arg10 harg10 arg11 harg11 hc0 hc1
      x0 x1 x2 x3 x4 x5 x6 x7 fh0 = block (F := Ideal) (streamed c t fh0) x0 x1 x2 x3 x4 x5 x6 x7 := by
  unfold out0_B_8
  rw [View.read_writes_junk_eq_canon]
  unfold kernelRun0_B
  dsimp only
  refine (View.canon_unit_zero (S := S512x1024) hz _ _).trans ?_
  have l0 := load_whole harg1 x0 inb_S512x512_S512x512_0_0
  have l1 := load_whole harg3 x1 inb_S512x1024_S512x1024_0_0
  have l2 := load_whole harg4 x2 inb_S512x1024_S512x1024_0_0
  have l3 := load_whole harg5 x3 inb_S512x1024_S512x1024_0_0
  have l4 := load_whole harg6 x4 inb_S1024x1024_S1024x1024_0_0
  have l6 := load_whole harg8 x6 inb_S128x512_S128x512_0_0
  have l7 := load_whole harg9 x7 inb_S1x1024_S1x1024_0_0
  have hm : kernelRun0_B.sl.HS0_4 c t arg7 harg7 arg8 harg8 x5 x6 fh0
      = mixPieces (F := Ideal) (View.ld (streamed c t fh0) (Rect.unit ![0, 1024] S512x512.size inb_S512x3584_S512x512_0_1024)) x5 x6 := by
    have v : kernelRun0_B.sl.v42 c t fh0 = View.ld (streamed c t fh0) (Rect.unit ![0, 1024] S512x512.size inb_S512x3584_S512x512_0_1024) :=
      readCov_whole _ (streamed c t fh0) _
    unfold kernelRun0_B.sl.HS0_4 kernelRun0_B.sl.r_2 kernelRun0_B.sl.r_3 kernelRun0_B.sl.r_4 kernelRun0_B.sl.r_5
      kernelRun0_B.sl.r_6 kernelRun0_B.sl.r_7 kernelRun0_B.sl.r_8 kernelRun0_B.sl.r_9
    unfold kernelRun0_B.sl.r_2 kernelRun0_B.sl.r_3
    simp only [readAt_unread]
    rw [v, View.ld_unit_zero (S := S128x512) hz]
    rfl
  have hv : kernelRun0_B.sl.v183 c t arg7 harg7 arg8 harg8 arg11 x5 x6 fh0 = View.canon (mixPieces (F := Ideal)
      (View.ld (streamed c t fh0) (Rect.unit ![0, 1024] S512x512.size inb_S512x3584_S512x512_0_1024)) x5 x6) := by
    unfold kernelRun0_B.sl.v183
    rw [View.readCov_eq_canon', hm]
    exact View.ld_unit_zero (S := S512x512) hz inb_S512x512_S512x512_0_0 _
  have c0 : kernelRun0_B.sl.v35 c t fh0 = View.ld (streamed c t fh0) (Rect.unit ![0, 0] S512x512.size inb_S512x3584_S512x512_0_0) :=
    readCov_whole _ (streamed c t fh0) _
  have c1 : kernelRun0_B.sl.v181 c t fh0 = View.ld (streamed c t fh0) (Rect.unit ![0, 512] S512x512.size inb_S512x3584_S512x512_0_512) :=
    readCov_whole _ (streamed c t fh0) _
  have c3 : kernelRun0_B.sl.v189 c t fh0 = View.ld (streamed c t fh0) (Rect.unit ![0, 1536] S512x1024.size inb_S512x3584_S512x1024_0_1536) :=
    readCov_whole _ (streamed c t fh0) _
  have c4 : kernelRun0_B.sl.v194 c t fh0 = View.ld (streamed c t fh0) (Rect.unit ![0, 2560] ![512, 1024] inb_S512x3584_S512x1024_0_2560) :=
    readCov_whole _ (streamed c t fh0) _
  have y0 : kernelRun0_B.sl.r_1 c t arg1 harg1 arg4 harg4 x0 x2 fh0
      = k0_pay3 (k0_pay2 x0) (View.ld (streamed c t fh0) (Rect.unit ![0, 0] S512x512.size inb_S512x3584_S512x512_0_0)) x2 := by
    unfold kernelRun0_B.sl.r_1 kernelRun0_B.sl.r
    rw [c0]
    exact congrArg₂ (fun a b => k0_pay3 (F := Ideal) (k0_pay2 a) _ b) l0 l2
  have y1 : kernelRun0_B.sl.r_10 c t arg5 harg5 arg7 harg7 arg8 harg8 arg11 x3 x5 x6 fh0
      = k0_pay18 (View.ld (streamed c t fh0) (Rect.unit ![0, 512] S512x512.size inb_S512x3584_S512x512_0_512)) (View.canon (mixPieces (F := Ideal)
      (View.ld (streamed c t fh0) (Rect.unit ![0, 1024] S512x512.size inb_S512x3584_S512x512_0_1024)) x5 x6)) x3 := by
    unfold kernelRun0_B.sl.r_10
    rw [c1, hv]
    exact congrArg (k0_pay18 (F := Ideal) _ _) l3
  have y2 : kernelRun0_B.sl.r_11 c t fh0
      = k0_pay19 (View.ld (streamed c t fh0) (Rect.unit ![0, 1536] S512x1024.size inb_S512x3584_S512x1024_0_1536)) := by
    unfold kernelRun0_B.sl.r_11
    rw [c3]
  rw [y0, y1, y2, c4]
  unfold block
  exact (congrArg (fun x => k0_pay1 (F := Ideal) _ _ _ _ x _ _) l1).trans
    (congrArg₂ (fun w f => k0_pay1 (F := Ideal) _ _ _ _ x1 w f) l4 l7)

/-- In the first point. -/
theorem out_A (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole)
    (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole)
    (hc0 : cond0_0 (grid0.coords t)) (hc1 : cond0_1 (grid0.coords t))
    (x0 : Vec Ideal S512x512 .bf16) (x1 : Vec Ideal S512x1024 .f32) (x2 : Vec Ideal S512x1024 .f32) (x3 : Vec Ideal S512x1024 .f32) (x4 : Vec Ideal S1024x1024 .f32) (x5 : Vec Ideal S8x128x128 .f32) (x6 : Vec Ideal S128x512 .f32) (x7 : Vec Ideal S1x1024 .f32) (fh0 : HbBuf0 (F := Ideal) c hbM0_0) :
    out0_A_8 (F := Ideal) c t arg1 harg1 arg3 harg3 arg4 harg4 arg5 harg5 arg6 harg6 arg7 harg7 arg8 harg8 arg9 harg9 arg10 harg10 arg11 harg11 hc0 hc1
      x0 x1 x2 x3 x4 x5 x6 x7 fh0 = block (F := Ideal) (streamed c t fh0) x0 x1 x2 x3 x4 x5 x6 x7 := by
  unfold out0_A_8
  rw [View.read_writes_junk_eq_canon]
  unfold kernelRun0_A
  dsimp only
  refine (View.canon_unit_zero (S := S512x1024) hz _ _).trans ?_
  have l0 := load_whole harg1 x0 inb_S512x512_S512x512_0_0
  have l1 := load_whole harg3 x1 inb_S512x1024_S512x1024_0_0
  have l2 := load_whole harg4 x2 inb_S512x1024_S512x1024_0_0
  have l3 := load_whole harg5 x3 inb_S512x1024_S512x1024_0_0
  have l4 := load_whole harg6 x4 inb_S1024x1024_S1024x1024_0_0
  have l6 := load_whole harg8 x6 inb_S128x512_S128x512_0_0
  have l7 := load_whole harg9 x7 inb_S1x1024_S1x1024_0_0
  have hm : kernelRun0_A.sl.HS0_4 c t arg7 harg7 arg8 harg8 x5 x6 fh0
      = mixPieces (F := Ideal) (View.ld (streamed c t fh0) (Rect.unit ![0, 1024] S512x512.size inb_S512x3584_S512x512_0_1024)) x5 x6 := by
    have v : kernelRun0_A.sl.v42 c t fh0 = View.ld (streamed c t fh0) (Rect.unit ![0, 1024] S512x512.size inb_S512x3584_S512x512_0_1024) :=
      readCov_whole _ (streamed c t fh0) _
    unfold kernelRun0_A.sl.HS0_4 kernelRun0_A.sl.r_2 kernelRun0_A.sl.r_3 kernelRun0_A.sl.r_4 kernelRun0_A.sl.r_5
      kernelRun0_A.sl.r_6 kernelRun0_A.sl.r_7 kernelRun0_A.sl.r_8 kernelRun0_A.sl.r_9
    unfold kernelRun0_A.sl.r_2 kernelRun0_A.sl.r_3
    simp only [readAt_unread]
    rw [v, View.ld_unit_zero (S := S128x512) hz]
    rfl
  have hv : kernelRun0_A.sl.v183 c t arg7 harg7 arg8 harg8 arg11 x5 x6 fh0 = View.canon (mixPieces (F := Ideal)
      (View.ld (streamed c t fh0) (Rect.unit ![0, 1024] S512x512.size inb_S512x3584_S512x512_0_1024)) x5 x6) := by
    unfold kernelRun0_A.sl.v183
    rw [View.readCov_eq_canon', hm]
    exact View.ld_unit_zero (S := S512x512) hz inb_S512x512_S512x512_0_0 _
  have c0 : kernelRun0_A.sl.v35 c t fh0 = View.ld (streamed c t fh0) (Rect.unit ![0, 0] S512x512.size inb_S512x3584_S512x512_0_0) :=
    readCov_whole _ (streamed c t fh0) _
  have c1 : kernelRun0_A.sl.v181 c t fh0 = View.ld (streamed c t fh0) (Rect.unit ![0, 512] S512x512.size inb_S512x3584_S512x512_0_512) :=
    readCov_whole _ (streamed c t fh0) _
  have c3 : kernelRun0_A.sl.v189 c t fh0 = View.ld (streamed c t fh0) (Rect.unit ![0, 1536] S512x1024.size inb_S512x3584_S512x1024_0_1536) :=
    readCov_whole _ (streamed c t fh0) _
  have c4 : kernelRun0_A.sl.v194 c t fh0 = View.ld (streamed c t fh0) (Rect.unit ![0, 2560] ![512, 1024] inb_S512x3584_S512x1024_0_2560) :=
    readCov_whole _ (streamed c t fh0) _
  have y0 : kernelRun0_A.sl.r_1 c t arg1 harg1 arg4 harg4 x0 x2 fh0
      = k0_pay3 (k0_pay2 x0) (View.ld (streamed c t fh0) (Rect.unit ![0, 0] S512x512.size inb_S512x3584_S512x512_0_0)) x2 := by
    unfold kernelRun0_A.sl.r_1 kernelRun0_A.sl.r
    rw [c0]
    exact congrArg₂ (fun a b => k0_pay3 (F := Ideal) (k0_pay2 a) _ b) l0 l2
  have y1 : kernelRun0_A.sl.r_10 c t arg5 harg5 arg7 harg7 arg8 harg8 arg11 x3 x5 x6 fh0
      = k0_pay18 (View.ld (streamed c t fh0) (Rect.unit ![0, 512] S512x512.size inb_S512x3584_S512x512_0_512)) (View.canon (mixPieces (F := Ideal)
      (View.ld (streamed c t fh0) (Rect.unit ![0, 1024] S512x512.size inb_S512x3584_S512x512_0_1024)) x5 x6)) x3 := by
    unfold kernelRun0_A.sl.r_10
    rw [c1, hv]
    exact congrArg (k0_pay18 (F := Ideal) _ _) l3
  have y2 : kernelRun0_A.sl.r_11 c t fh0
      = k0_pay19 (View.ld (streamed c t fh0) (Rect.unit ![0, 1536] S512x1024.size inb_S512x3584_S512x1024_0_1536)) := by
    unfold kernelRun0_A.sl.r_11
    rw [c3]
  rw [y0, y1, y2, c4]
  unfold block
  exact (congrArg (fun x => k0_pay1 (F := Ideal) _ _ _ _ x _ _) l1).trans
    (congrArg₂ (fun w f => k0_pay1 (F := Ideal) _ _ _ _ x1 w f) l4 l7)

/-- In the last two points. -/
theorem out_C (c : Dev nD) (t : Fin cfg0.N) (arg1 : Memref sig .tc .vmem S512x512 .bf16) (harg1 : arg1.IsWhole) (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S128x512 .f32) (harg8 : arg8.IsWhole)
    (arg9 : Memref sig .tc .vmem S1x1024 .f32) (harg9 : arg9.IsWhole) (arg10 : Memref sig .tc .vmem S512x1024 .f32) (harg10 : arg10.IsWhole) (arg11 : Memref sig .tc .vmem S512x512 .f32) (harg11 : arg11.IsWhole)
    (hc0 : ¬cond0_0 (grid0.coords t)) (hc1 : ¬cond0_1 (grid0.coords t))
    (x0 : Vec Ideal S512x512 .bf16) (x1 : Vec Ideal S512x1024 .f32) (x2 : Vec Ideal S512x1024 .f32) (x3 : Vec Ideal S512x1024 .f32) (x4 : Vec Ideal S1024x1024 .f32) (x5 : Vec Ideal S8x128x128 .f32) (x6 : Vec Ideal S128x512 .f32) (x7 : Vec Ideal S1x1024 .f32) (fh0 : HbBuf0 (F := Ideal) c hbM0_0) :
    out0_C_8 (F := Ideal) c t arg1 harg1 arg3 harg3 arg4 harg4 arg5 harg5 arg6 harg6 arg7 harg7 arg8 harg8 arg9 harg9 arg10 harg10 arg11 harg11 hc0 hc1
      x0 x1 x2 x3 x4 x5 x6 x7 fh0 = block (F := Ideal) (streamed c t fh0) x0 x1 x2 x3 x4 x5 x6 x7 := by
  unfold out0_C_8
  rw [View.read_writes_junk_eq_canon]
  unfold kernelRun0_C
  dsimp only
  refine (View.canon_unit_zero (S := S512x1024) hz _ _).trans ?_
  have l0 := load_whole harg1 x0 inb_S512x512_S512x512_0_0
  have l1 := load_whole harg3 x1 inb_S512x1024_S512x1024_0_0
  have l2 := load_whole harg4 x2 inb_S512x1024_S512x1024_0_0
  have l3 := load_whole harg5 x3 inb_S512x1024_S512x1024_0_0
  have l4 := load_whole harg6 x4 inb_S1024x1024_S1024x1024_0_0
  have l6 := load_whole harg8 x6 inb_S128x512_S128x512_0_0
  have l7 := load_whole harg9 x7 inb_S1x1024_S1x1024_0_0
  have hm : kernelRun0_C.sl.HS0_4 c t arg7 harg7 arg8 harg8 x5 x6 fh0
      = mixPieces (F := Ideal) (View.ld (streamed c t fh0) (Rect.unit ![0, 1024] S512x512.size inb_S512x3584_S512x512_0_1024)) x5 x6 := by
    have v : kernelRun0_C.sl.v42 c t fh0 = View.ld (streamed c t fh0) (Rect.unit ![0, 1024] S512x512.size inb_S512x3584_S512x512_0_1024) :=
      readCov_whole _ (streamed c t fh0) _
    unfold kernelRun0_C.sl.HS0_4 kernelRun0_C.sl.r_2 kernelRun0_C.sl.r_3 kernelRun0_C.sl.r_4 kernelRun0_C.sl.r_5
      kernelRun0_C.sl.r_6 kernelRun0_C.sl.r_7 kernelRun0_C.sl.r_8 kernelRun0_C.sl.r_9
    unfold kernelRun0_C.sl.r_2 kernelRun0_C.sl.r_3
    simp only [readAt_unread]
    rw [v, View.ld_unit_zero (S := S128x512) hz]
    rfl
  have hv : kernelRun0_C.sl.v183 c t arg7 harg7 arg8 harg8 arg11 x5 x6 fh0 = View.canon (mixPieces (F := Ideal)
      (View.ld (streamed c t fh0) (Rect.unit ![0, 1024] S512x512.size inb_S512x3584_S512x512_0_1024)) x5 x6) := by
    unfold kernelRun0_C.sl.v183
    rw [View.readCov_eq_canon', hm]
    exact View.ld_unit_zero (S := S512x512) hz inb_S512x512_S512x512_0_0 _
  have c0 : kernelRun0_C.sl.v35 c t fh0 = View.ld (streamed c t fh0) (Rect.unit ![0, 0] S512x512.size inb_S512x3584_S512x512_0_0) :=
    readCov_whole _ (streamed c t fh0) _
  have c1 : kernelRun0_C.sl.v181 c t fh0 = View.ld (streamed c t fh0) (Rect.unit ![0, 512] S512x512.size inb_S512x3584_S512x512_0_512) :=
    readCov_whole _ (streamed c t fh0) _
  have c3 : kernelRun0_C.sl.v189 c t fh0 = View.ld (streamed c t fh0) (Rect.unit ![0, 1536] S512x1024.size inb_S512x3584_S512x1024_0_1536) :=
    readCov_whole _ (streamed c t fh0) _
  have c4 : kernelRun0_C.sl.v194 c t fh0 = View.ld (streamed c t fh0) (Rect.unit ![0, 2560] ![512, 1024] inb_S512x3584_S512x1024_0_2560) :=
    readCov_whole _ (streamed c t fh0) _
  have y0 : kernelRun0_C.sl.r_1 c t arg1 harg1 arg4 harg4 x0 x2 fh0
      = k0_pay3 (k0_pay2 x0) (View.ld (streamed c t fh0) (Rect.unit ![0, 0] S512x512.size inb_S512x3584_S512x512_0_0)) x2 := by
    unfold kernelRun0_C.sl.r_1 kernelRun0_C.sl.r
    rw [c0]
    exact congrArg₂ (fun a b => k0_pay3 (F := Ideal) (k0_pay2 a) _ b) l0 l2
  have y1 : kernelRun0_C.sl.r_10 c t arg5 harg5 arg7 harg7 arg8 harg8 arg11 x3 x5 x6 fh0
      = k0_pay18 (View.ld (streamed c t fh0) (Rect.unit ![0, 512] S512x512.size inb_S512x3584_S512x512_0_512)) (View.canon (mixPieces (F := Ideal)
      (View.ld (streamed c t fh0) (Rect.unit ![0, 1024] S512x512.size inb_S512x3584_S512x512_0_1024)) x5 x6)) x3 := by
    unfold kernelRun0_C.sl.r_10
    rw [c1, hv]
    exact congrArg (k0_pay18 (F := Ideal) _ _) l3
  have y2 : kernelRun0_C.sl.r_11 c t fh0
      = k0_pay19 (View.ld (streamed c t fh0) (Rect.unit ![0, 1536] S512x1024.size inb_S512x3584_S512x1024_0_1536)) := by
    unfold kernelRun0_C.sl.r_11
    rw [c3]
  rw [y0, y1, y2, c4]
  unfold block
  exact (congrArg (fun x => k0_pay1 (F := Ideal) _ _ _ _ x _ _) l1).trans
    (congrArg₂ (fun w f => k0_pay1 (F := Ideal) _ _ _ _ x1 w f) l4 l7)

end Cert.PostIdeal.Post

end
-- ==== Proof.Post.Host.lean ====
module

public import proofs.«01_k».proof.Proof.Gen.PostIdeal.Frame.Runs
public import Idealize.ShloMosaic.Lib.Claim
public import Idealize.ShloMosaic.Lib.StableHlo.RunRead
public import Idealize.ShloMosaic.Lib.Pointwise

/-! The arrays the call is made on, element by element. -/

@[expose] public section

set_option maxRecDepth 100000
set_option maxHeartbeats 1000000

noncomputable section

namespace Cert.PostIdeal.Post

open Cert.PostIdeal Cert.PostIdeal.Gen
open Idealize.ShloMosaic Idealize.ShloMosaic.StableHlo Idealize.ShloMosaic.TcCoe Idealize.SL.Sem

variable (m : (ℓ : Loc nD τ sig) → Buf (Elt Ideal) ℓ)

/-- The attention's rows. -/
theorem attn_at (c : Dev nD) (n : Fin 16384) (e : Fin 512) :
    (show S16384x512.Idx → EReal from V m c main_v1) (ix2 n e)
      = (show S2x8192x512.Idx → EReal from m (c, Proc.devRef .tc main_arg0)) (ix3 ⟨n / 8192, by omega⟩ ⟨n % 8192, by omega⟩ e) := by
  after_reads_simp
  pointwise

/-- The residual's rows. -/
theorem x_at (c : Dev nD) (n : Fin 16384) (e : Fin 1024) :
    (show S16384x1024.Idx → EReal from V m c main_v11) (ix2 n e)
      = (show S2x8192x1024.Idx → EReal from m (c, Proc.devRef .tc main_arg5)) (ix3 ⟨n / 8192, by omega⟩ ⟨n % 8192, by omega⟩ e) := by
  after_reads_simp
  pointwise

/-- The gain. -/
theorem gain_at (c : Dev nD) (e : Fin 1024) :
    (show S1x1024.Idx → EReal from V m c main_v12) (ix2 0 e)
      = (show S1024.Idx → EReal from m (c, Proc.devRef .tc main_arg11)) (ix1 e) := by
  after_reads_simp
  pointwise

/-- The bias, each group's repeated over its columns. -/
theorem bias_at (c : Dev nD) (i : Fin 128) (e : Fin 512) :
    (show S128x512.Idx → EReal from V m c main_v10) (ix2 i e)
      = (show S8x128.Idx → EReal from m (c, Proc.devRef .tc main_arg8)) (ix2 ⟨e / 64, by omega⟩ i) := by
  after_reads_simp
  pointwise

/-- The streamed rows: the gate, the input, its partner and the merge gates beside each other. -/
theorem rest_at (c : Dev nD) (n : Fin 16384) (e : Fin 3584) :
    (show S16384x3584.Idx → EReal from V m c main_v7) (ix2 n e)
      = if h0 : e.val < 512 then (show S2x8192x512.Idx → EReal from m (c, Proc.devRef .tc main_arg1))
          (ix3 ⟨n / 8192, by omega⟩ ⟨n % 8192, by omega⟩ ⟨e, h0⟩)
        else if h1 : e.val < 1024 then (show S2x8192x512.Idx → EReal from m (c, Proc.devRef .tc main_arg2))
          (ix3 ⟨n / 8192, by omega⟩ ⟨n % 8192, by omega⟩ ⟨e - 512, by omega⟩)
        else if h2 : e.val < 1536 then (show S2x8192x512.Idx → EReal from m (c, Proc.devRef .tc main_arg3))
          (ix3 ⟨n / 8192, by omega⟩ ⟨n % 8192, by omega⟩ ⟨e - 1024, by omega⟩)
        else (show S2x8192x2048.Idx → EReal from m (c, Proc.devRef .tc main_arg4))
          (ix3 ⟨n / 8192, by omega⟩ ⟨n % 8192, by omega⟩ ⟨e - 1536, by omega⟩) := by
  after_reads_simp
  pointwise
  after_reads_simp
  pointwise
  refine dite_congr rfl (fun _ => rfl) fun _ => ?_
  refine dite_congr (propext (by omega)) (fun _ => rfl) fun _ => ?_
  refine dite_congr (propext (by omega)) (fun _ => ?_) fun _ => ?_
  · exact congrArg (m (c, Proc.tc.devRef main_arg3)) (congrArg (ix3 _ _) (Fin.ext (Nat.sub_sub _ _ _)))
  · exact congrArg (m (c, Proc.tc.devRef main_arg4)) (congrArg (ix3 _ _) (Fin.ext (by show e.val - 512 - 512 - 512 = e.val - 1536; omega)))

end Cert.PostIdeal.Post

end
-- ==== Proof.Post.Result.lean ====
module

public import proofs.«01_k».proof.Proof.Post.Spec

/-! The whole result: every row of it. -/

@[expose] public section

noncomputable section

namespace Cert.Post.Row

open Idealize.ShloMosaic

/-- The result on the twelve arguments, rows numbered through both sequences. -/
def result (A GA U VV : (⟨3, ![2, 8192, 512]⟩ : Shape).Idx → EReal) (G : (⟨3, ![2, 8192, 2048]⟩ : Shape).Idx → EReal)
    (X : (⟨3, ![2, 8192, 1024]⟩ : Shape).Idx → EReal) (WA : (⟨2, ![512, 1024]⟩ : Shape).Idx → EReal)
    (WS : (⟨3, ![8, 128, 128]⟩ : Shape).Idx → EReal) (BS : (⟨2, ![8, 128]⟩ : Shape).Idx → EReal)
    (WG : (⟨2, ![512, 1024]⟩ : Shape).Idx → EReal) (WO : (⟨2, ![1024, 1024]⟩ : Shape).Idx → EReal)
    (FG : (⟨1, ![1024]⟩ : Shape).Idx → EReal) (n : Fin 16384) (d : Fin 1024) : EReal :=
  row (fun e => A (ix3 ⟨n / 8192, by omega⟩ ⟨n % 8192, by omega⟩ e) * GA (ix3 ⟨n / 8192, by omega⟩ ⟨n % 8192, by omega⟩ e))
    (fun e => U (ix3 ⟨n / 8192, by omega⟩ ⟨n % 8192, by omega⟩ e)
      * (∑ k : Fin 128, WS (ix3 ⟨e / 64, by omega⟩ ⟨n % 8192 % 128, by omega⟩ k)
          * VV (ix3 ⟨n / 8192, by omega⟩ ⟨n % 8192 / 128 * 128 + k, by omega⟩ e)
        + BS (ix2 ⟨e / 64, by omega⟩ ⟨n % 8192 % 128, by omega⟩)))
    (fun d => G (ix3 ⟨n / 8192, by omega⟩ ⟨n % 8192, by omega⟩ ⟨d, by omega⟩))
    (fun d => G (ix3 ⟨n / 8192, by omega⟩ ⟨n % 8192, by omega⟩ ⟨1024 + d, by omega⟩))
    (fun d => X (ix3 ⟨n / 8192, by omega⟩ ⟨n % 8192, by omega⟩ d)) (fun d => FG (ix1 d))
    (fun e d => WA (ix2 e d)) (fun e d => WG (ix2 e d)) (fun e d => WO (ix2 e d)) d

/-- The result as an array. -/
def resultArr (A GA U VV : (⟨3, ![2, 8192, 512]⟩ : Shape).Idx → EReal) (G : (⟨3, ![2, 8192, 2048]⟩ : Shape).Idx → EReal)
    (X : (⟨3, ![2, 8192, 1024]⟩ : Shape).Idx → EReal) (WA : (⟨2, ![512, 1024]⟩ : Shape).Idx → EReal)
    (WS : (⟨3, ![8, 128, 128]⟩ : Shape).Idx → EReal) (BS : (⟨2, ![8, 128]⟩ : Shape).Idx → EReal)
    (WG : (⟨2, ![512, 1024]⟩ : Shape).Idx → EReal) (WO : (⟨2, ![1024, 1024]⟩ : Shape).Idx → EReal)
    (FG : (⟨1, ![1024]⟩ : Shape).Idx → EReal) : (⟨2, ![16384, 1024]⟩ : Shape).Idx → EReal :=
  fun i => result A GA U VV G X WA WS BS WG WO FG (i 0) (i 1)

end Cert.Post.Row

end
-- ==== Proof.Post.Value.lean ====
module

public import proofs.«01_k».proof.Proof.Post.Out
public import proofs.«01_k».proof.Proof.Post.Host
public import proofs.«01_k».proof.Proof.Post.Result
public import Idealize.ShloMosaic.Lib.Pipeline.ValueKit.Point
public import Idealize.ShloMosaic.Lib.Pipeline.ArrRel

/-! The output array of the call, row by row. -/

@[expose] public section

set_option maxRecDepth 100000
set_option maxHeartbeats 1000000

noncomputable section

namespace Cert.PostIdeal.Post

open Cert.PostIdeal Cert.PostIdeal.Gen Cert.Post.Row
open Idealize.ShloMosaic Idealize.ShloMosaic.TcCoe

variable (m : (ℓ : Loc nD τ sig) → Buf (Elt Ideal) ℓ)

theorem idx0 (t : Fin cfg0.N) : (cfg0.win 0).index t = ![t.val, 0] := by revert t; decide +kernel
theorem idx1 (t : Fin cfg0.N) : (cfg0.win 1).index t = ![t.val, 0] := by revert t; decide +kernel
theorem idx2 (t : Fin cfg0.N) : (cfg0.win 2).index t = ![0, 0] := by revert t; decide +kernel
theorem idx3 (t : Fin cfg0.N) : (cfg0.win 3).index t = ![0, 0] := by revert t; decide +kernel
theorem idx4 (t : Fin cfg0.N) : (cfg0.win 4).index t = ![0, 0] := by revert t; decide +kernel
theorem idx5 (t : Fin cfg0.N) : (cfg0.win 5).index t = ![0, 0, 0] := by revert t; decide +kernel
theorem idx6 (t : Fin cfg0.N) : (cfg0.win 6).index t = ![0, 0] := by revert t; decide +kernel
theorem idx7 (t : Fin cfg0.N) : (cfg0.win 7).index t = ![0, 0] := by revert t; decide +kernel
theorem idx8 (t : Fin cfg0.N) : (cfg0.win 8).index t = ![t.val, 0] := by revert t; decide +kernel

theorem lt32 (t : Fin cfg0.N) : t.val < 32 := t.isLt.trans_eq N_0

theorem blk0 (c : Dev nD) (t : Fin cfg0.N) (p : Fin 512) (e : Fin 512) : (show S512x512.Idx → EReal from iblk m c 0 t) (ix2 p e)
    = (show S16384x512.Idx → EReal from V m c main_v1) (ix2 ⟨512 * t.val + p, by have := lt32 t; omega⟩ e) := by
  blk_ext [iblk, idx0 t]
theorem blk1 (c : Dev nD) (t : Fin cfg0.N) (p : Fin 512) (e : Fin 1024) : (show S512x1024.Idx → EReal from iblk m c 1 t) (ix2 p e)
    = (show S16384x1024.Idx → EReal from V m c main_v11) (ix2 ⟨512 * t.val + p, by have := lt32 t; omega⟩ e) := by
  blk_ext [iblk, idx1 t]
theorem blk2 (c : Dev nD) (t : Fin cfg0.N) (p : Fin 512) (e : Fin 1024) : (show S512x1024.Idx → EReal from iblk m c 2 t) (ix2 p e)
    = (show S512x1024.Idx → EReal from V m c main_arg6) (ix2 p e) := by
  blk_ext [iblk, idx2 t]
theorem blk3 (c : Dev nD) (t : Fin cfg0.N) (p : Fin 512) (e : Fin 1024) : (show S512x1024.Idx → EReal from iblk m c 3 t) (ix2 p e)
    = (show S512x1024.Idx → EReal from V m c main_arg9) (ix2 p e) := by
  blk_ext [iblk, idx3 t]
theorem blk4 (c : Dev nD) (t : Fin cfg0.N) (p : Fin 1024) (e : Fin 1024) : (show S1024x1024.Idx → EReal from iblk m c 4 t) (ix2 p e)
    = (show S1024x1024.Idx → EReal from V m c main_arg10) (ix2 p e) := by
  blk_ext [iblk, idx4 t]
theorem blk5 (c : Dev nD) (t : Fin cfg0.N) (j : Fin 8) (p e : Fin 128) : (show S8x128x128.Idx → EReal from iblk m c 5 t) (ix3 j p e)
    = (show S8x128x128.Idx → EReal from V m c main_arg7) (ix3 j p e) := by
  blk_ext [iblk, idx5 t]
theorem blk6 (c : Dev nD) (t : Fin cfg0.N) (p : Fin 128) (e : Fin 512) : (show S128x512.Idx → EReal from iblk m c 6 t) (ix2 p e)
    = (show S128x512.Idx → EReal from V m c main_v10) (ix2 p e) := by
  blk_ext [iblk, idx6 t]
theorem blk7 (c : Dev nD) (t : Fin cfg0.N) (e : Fin 1024) : (show S1x1024.Idx → EReal from iblk m c 7 t) (ix2 0 e)
    = (show S1x1024.Idx → EReal from V m c main_v12) (ix2 0 e) := by
  blk_ext [iblk, idx7 t]

/-- The rows streamed for point `t` are the point's own. -/
theorem streamed_at (c : Dev nD) (t : Fin cfg0.N) (p : Fin 512) (e : Fin 3584) : streamed c t (V m c main_v7) (ix2 p e)
    = (show S16384x3584.Idx → EReal from V m c main_v7) (ix2 ⟨512 * t.val + p, by have := lt32 t; omega⟩ e) := by
  have hb : (Ring.bk 32 t.val : Fin 32).val = t.val := Nat.mod_eq_of_lt (lt32 t)
  have hi : (srcB0_0 (Ring.bk 32 t.val)).view.emb (ix2 p e)
      = (ix2 ⟨512 * t.val + p, by have := lt32 t; omega⟩ e : S16384x3584.Idx) := funext fun a : Fin 2 => Fin.ext (match a with
    | 0 => by show 512 * (Ring.bk 32 t.val : Fin 32).val + 1 * p.val = 512 * t.val + p.val; rw [hb]; omega
    | 1 => by show 0 + 1 * e.val = e.val; omega)
  exact congrArg (show S16384x3584.Idx → EReal from V m c main_v7) hi

/-- What point `t` leaves in its output block. -/
theorem left_eq (c : Dev nD) (t : Fin cfg0.N) : outsAt0 m c t.val t.isLt
    = block (F := Ideal) (streamed c t (V m c main_v7)) (iblk m c 0 t) (iblk m c 1 t) (iblk m c 2 t) (iblk m c 3 t) (iblk m c 4 t)
      (iblk m c 5 t) (iblk m c 6 t) (iblk m c 7 t) := by
  by_cases h0 : t.val % 32 = 0
  · by_cases h1 : t.val < 30
    · rw [outsAt0_A m c t h0 h1, out_A]
    · have := lt32 t; omega
  · by_cases h1 : t.val < 30
    · rw [outsAt0_B m c t h0 h1, out_B]
    · rw [outsAt0_C m c t h0 h1, out_C]

/-- The call's arguments' result. -/
def out (c : Dev nD) : S16384x1024.Idx → EReal :=
  resultArr (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg11))

/-- A row of the streamed array, by its four parts. -/
theorem rest_gate (c : Dev nD) (n : Fin 16384) (e : Fin 512) : (show S16384x3584.Idx → EReal from V m c main_v7) (ix2 n ⟨0 + e, by omega⟩)
    = (show S2x8192x512.Idx → EReal from m (c, Proc.devRef .tc main_arg1)) (ix3 ⟨n / 8192, by omega⟩ ⟨n % 8192, by omega⟩ e) := by
  rw [rest_at, dif_pos (show 0 + e.val < 512 by omega)]
  exact congrArg (m (c, Proc.devRef .tc main_arg1)) (congrArg (ix3 _ _) (Fin.ext (Nat.zero_add _)))
theorem rest_u (c : Dev nD) (n : Fin 16384) (e : Fin 512) : (show S16384x3584.Idx → EReal from V m c main_v7) (ix2 n ⟨512 + e, by omega⟩)
    = (show S2x8192x512.Idx → EReal from m (c, Proc.devRef .tc main_arg2)) (ix3 ⟨n / 8192, by omega⟩ ⟨n % 8192, by omega⟩ e) := by
  rw [rest_at, dif_neg (show ¬ 512 + e.val < 512 by omega), dif_pos (show 512 + e.val < 1024 by omega)]
  exact congrArg (m (c, Proc.devRef .tc main_arg2)) (congrArg (ix3 _ _) (Fin.ext (Nat.add_sub_cancel_left _ _)))
theorem rest_v (c : Dev nD) (n : Fin 16384) (e : Fin 512) : (show S16384x3584.Idx → EReal from V m c main_v7) (ix2 n ⟨1024 + e, by omega⟩)
    = (show S2x8192x512.Idx → EReal from m (c, Proc.devRef .tc main_arg3)) (ix3 ⟨n / 8192, by omega⟩ ⟨n % 8192, by omega⟩ e) := by
  rw [rest_at, dif_neg (show ¬ 1024 + e.val < 512 by omega), dif_neg (show ¬ 1024 + e.val < 1024 by omega), dif_pos (show 1024 + e.val < 1536 by omega)]
  exact congrArg (m (c, Proc.devRef .tc main_arg3)) (congrArg (ix3 _ _) (Fin.ext (Nat.add_sub_cancel_left _ _)))
theorem rest_g (c : Dev nD) (n : Fin 16384) (d : Fin 2048) : (show S16384x3584.Idx → EReal from V m c main_v7) (ix2 n ⟨1536 + d, by omega⟩)
    = (show S2x8192x2048.Idx → EReal from m (c, Proc.devRef .tc main_arg4)) (ix3 ⟨n / 8192, by omega⟩ ⟨n % 8192, by omega⟩ d) := by
  rw [rest_at, dif_neg (show ¬ 1536 + d.val < 512 by omega), dif_neg (show ¬ 1536 + d.val < 1024 by omega), dif_neg (show ¬ 1536 + d.val < 1536 by omega)]
  exact congrArg (m (c, Proc.devRef .tc main_arg4)) (congrArg (ix3 _ _) (Fin.ext (Nat.add_sub_cancel_left _ _)))

/-- What point `t` leaves in its output block, entry by entry. -/
theorem left_at (c : Dev nD) (t : Fin cfg0.N) (p : Fin 512) (d : Fin 1024) : outsAt0 m c t.val t.isLt (ix2 p d)
    = out m c (ix2 ⟨512 * t.val + p, by have := lt32 t; omega⟩ d) := by
  have ht := lt32 t
  rw [left_eq, block_at]
  unfold out resultArr result mixAt
  have a0 : ∀ e : Fin 512, (iblk m c 0 t : S512x512.Idx → EReal) (ix2 p e) = _ := fun e => (blk0 m c t p e).trans (attn_at m c _ e)
  have a1 : ∀ e : Fin 1024, (iblk m c 1 t : S512x1024.Idx → EReal) (ix2 p e) = _ := fun e => (blk1 m c t p e).trans (x_at m c _ e)
  have a2 : ∀ (p : Fin 512) (e : Fin 1024), (iblk m c 2 t : S512x1024.Idx → EReal) (ix2 p e)
      = (show S512x1024.Idx → EReal from m (c, Proc.devRef .tc main_arg6)) (ix2 p e) :=
    fun p e => (blk2 m c t p e).trans (congrFun (V_main_arg6 m c) _)
  have a3 : ∀ (p : Fin 512) (e : Fin 1024), (iblk m c 3 t : S512x1024.Idx → EReal) (ix2 p e)
      = (show S512x1024.Idx → EReal from m (c, Proc.devRef .tc main_arg9)) (ix2 p e) :=
    fun p e => (blk3 m c t p e).trans (congrFun (V_main_arg9 m c) _)
  have a4 : ∀ (p : Fin 1024) (e : Fin 1024), (iblk m c 4 t : S1024x1024.Idx → EReal) (ix2 p e)
      = (show S1024x1024.Idx → EReal from m (c, Proc.devRef .tc main_arg10)) (ix2 p e) :=
    fun p e => (blk4 m c t p e).trans (congrFun (V_main_arg10 m c) _)
  have a5 : ∀ (j : Fin 8) (p e : Fin 128), (iblk m c 5 t : S8x128x128.Idx → EReal) (ix3 j p e)
      = (show S8x128x128.Idx → EReal from m (c, Proc.devRef .tc main_arg7)) (ix3 j p e) :=
    fun j p e => (blk5 m c t j p e).trans (congrFun (V_main_arg7 m c) _)
  have a6 : ∀ (p : Fin 128) (e : Fin 512), (iblk m c 6 t : S128x512.Idx → EReal) (ix2 p e) = _ :=
    fun p e => (blk6 m c t p e).trans (bias_at m c p e)
  have a7 : ∀ (e : Fin 1024), (iblk m c 7 t : S1x1024.Idx → EReal) (ix2 0 e) = _ := fun e => (blk7 m c t e).trans (gain_at m c e)
  have r0 : ∀ e : Fin 512, streamed c t (V m c main_v7) (ix2 p ⟨0 + e, by omega⟩) = _ :=
    fun e => (streamed_at m c t p _).trans (rest_gate m c _ e)
  have r1 : ∀ e : Fin 512, streamed c t (V m c main_v7) (ix2 p ⟨512 + e, by omega⟩) = _ :=
    fun e => (streamed_at m c t p _).trans (rest_u m c _ e)
  have r2 : ∀ s e : Fin 512, streamed c t (V m c main_v7) (ix2 s ⟨1024 + e, by omega⟩) = _ :=
    fun s e => (streamed_at m c t s _).trans (rest_v m c _ e)
  have r3 : ∀ d : Fin 1024, streamed c t (V m c main_v7) (ix2 p ⟨1536 + d, by omega⟩) = _ :=
    fun d => (streamed_at m c t p _).trans (rest_g m c _ ⟨d, by omega⟩)
  have r4 : ∀ d : Fin 1024, streamed c t (V m c main_v7) (ix2 p ⟨2560 + d, by omega⟩)
      = (show S2x8192x2048.Idx → EReal from m (c, Proc.devRef .tc main_arg4)) (ix3 ⟨(512 * t.val + p) / 8192, by omega⟩
        ⟨(512 * t.val + p) % 8192, by omega⟩ ⟨1024 + d, by omega⟩) :=
    fun d => (streamed_at m c t p _).trans ((congrArg (fun q => (show S16384x3584.Idx → EReal from V m c main_v7) (ix2 _ q))
      (Fin.ext (show 2560 + d.val = 1536 + (1024 + d.val) by omega))).trans (rest_g m c _ ⟨1024 + d, by omega⟩))
  simp only [r0, r1, r2, r3, r4, a0, a1, a2, a3, a4, a5, a6, a7]
  have e1 : ∀ h h', (⟨p.val % 128, h⟩ : Fin 128) = ⟨(512 * t.val + p.val) % 8192 % 128, h'⟩ := fun _ _ => Fin.ext (by dsimp only; omega)
  have e2 : ∀ (k : Fin 128) h h', (⟨(512 * t.val + (p.val / 128 * 128 + k.val)) / 8192, h⟩ : Fin 2) = ⟨(512 * t.val + p.val) / 8192, h'⟩ :=
    fun k _ _ => Fin.ext (by dsimp only; omega)
  have e3 : ∀ (k : Fin 128) h h', (⟨(512 * t.val + (p.val / 128 * 128 + k.val)) % 8192, h⟩ : Fin 8192)
      = ⟨(512 * t.val + p.val) % 8192 / 128 * 128 + k.val, h'⟩ := fun k _ _ => Fin.ext (by dsimp only; omega)
  refine congrFun (congrArg (fun q => row _ q _ _ _ _ _ _ _) (funext fun e => ?_)) d
  refine congrArg₂ (· * ·) rfl (congrArg₂ (· + ·) (Finset.sum_congr rfl fun k _ => congrArg₂ (· * ·) ?_ ?_) ?_)
  · exact congrArg (fun q => (show S8x128x128.Idx → EReal from m (c, Proc.devRef .tc main_arg7)) (ix3 _ q k)) (e1 _ _)
  · exact congrArg₂ (fun q r => (show S2x8192x512.Idx → EReal from m (c, Proc.devRef .tc main_arg3)) (ix3 q r e)) (e2 k _ _) (e3 k _ _)
  · exact congrArg (fun q => (show S8x128.Idx → EReal from m (c, Proc.devRef .tc main_arg8)) (ix2 _ q)) (e1 _ _)

/-- Thirty-two blocks that hold the result on them make it up. -/
theorem arr_of_blocks (c : Dev nD) (G : Buf (Elt Ideal) ((cfg0.win 8).arr.view.loc (c.tc : Thread nD τ)))
    (h : ∀ (t : Fin cfg0.N) (p : Fin 512) (d : Fin 1024), (show S512x1024.Idx → EReal from (dats m 0 c).after 8 t) (ix2 p d)
      = (show S16384x1024.Idx → EReal from G) (ix2 ⟨512 * t.val + p, by have := lt32 t; omega⟩ d)) :
    (dats m 0 c).arrAt 8 cfg0.N = G := by
  refine Pipeline.Dat.arrAt_eq_of_covers _ 8 G (by decide +kernel) (fun t hf y => ?_)
  obtain ⟨p, d, rfl⟩ : ∃ (p : Fin 512) (d : Fin 1024), y = ix2 p d :=
    ⟨y 0, y 1, funext fun a => match a with | ⟨0, _⟩ => rfl | ⟨1, _⟩ => rfl⟩
  refine Eq.trans (b := (dats m 0 c).after 8 t (ix2 p d)) rfl ((h t p d).trans ?_)
  show G _ = G _
  blk_ext [idx8 t]

/-- The output array after the run. -/
theorem out_arr (c : Dev nD) : (dats m 0 c).arrAt 8 cfg0.N = out m c :=
  arr_of_blocks m c (out m c) fun t p d => (congrFun (after0_8 m c t) (ix2 p d)).trans (left_at m c t p d)

end Cert.PostIdeal.Post

end
-- ==== Proof.Post.RefValue.lean ====
module

public import proofs.«01_k».proof.Proof.Post.Spec
public import proofs.«01_k».proof.Proof.Gen.PostReferenceIdeal
public import Idealize.ShloMosaic.Lib.Claim
public import Idealize.ShloMosaic.Lib.ReduceAll

/-! The reference's result, row by row. -/

@[expose] public section

set_option maxRecDepth 100000

noncomputable section

namespace Cert.PostReferenceIdeal.Post

open Cert.PostReferenceIdeal Cert.PostReferenceIdeal.Facts₀ Cert.Post.Row
open Idealize.ShloMosaic Idealize.ShloMosaic.TcCoe Idealize.SL.Sem

/-- A branch's projection. -/
def branch (a b : FVec Ideal S2x8192x512 .f32) (w : FVec Ideal S512x1024 .f32) : FVec Ideal S2x8192x1024 .f32 :=
  Host.dotGeneral dot_S2x8192x512_S512x1024_S2x8192x1024_2_0_01_1_n_n none (mulf a b) w

theorem branch_at (a b : FVec Ideal S2x8192x512 .f32) (w : FVec Ideal S512x1024 .f32) (i : Fin 2) (s : Fin 8192) (d : Fin 1024) :
    branch a b w (ix3 i s d) = proj (fun e => a (ix3 i s e) * b (ix3 i s e)) (fun e d => w (ix2 e d)) d := by
  unfold proj
  pointwise [branch]

/-- The values mixed along each chunk of 128 positions, the bias added. -/
def mixed (v : FVec Ideal S2x8192x512 .f32) (w : FVec Ideal S8x128x128 .f32) (b : FVec Ideal S8x128 .f32) : FVec Ideal S2x8192x512 .f32 :=
  shapeCast S2x8192x512
    (addf
      (transpose S2x64x128x8x64 [1, 2, 4, 0, 3]
        (Host.dotGeneral dot_S2x64x128x8x64_S8x128x128_S8x2x64x64x128_2_2_014_1_3_0 none
          (shapeCast S2x64x128x8x64 v shapeCasts_S2x8192x512_S2x64x128x8x64) w)
        transposes_S8x2x64x64x128_S2x64x128x8x64_1_2_4_0_3)
      (broadcastInDim S2x64x128x8x64 ![0, 1, 2, 3, 4] bcast_S1x1x128x8x1_S2x64x128x8x64_0_1_2_3_4
        (broadcastInDim S1x1x128x8x1 ![2, 3, 4] bcast_S128x8x1_S1x1x128x8x1_2_3_4
          (broadcastInDim S128x8x1 ![0, 1] bcast_S128x8_S128x8x1_0_1 (transpose S128x8 [1, 0] b transposes_S8x128_S128x8_1_0)))))
    shapeCasts_S2x64x128x8x64_S2x8192x512

theorem mixed_at (v : FVec Ideal S2x8192x512 .f32) (w : FVec Ideal S8x128x128 .f32) (b : FVec Ideal S8x128 .f32)
    (i : Fin 2) (s : Fin 8192) (e : Fin 512) :
    mixed v w b (ix3 i s e) = (∑ k : Fin 128, w (ix3 ⟨e / 64, by omega⟩ ⟨s % 128, by omega⟩ k) * v (ix3 i ⟨s / 128 * 128 + k, by omega⟩ e))
      + b (ix2 ⟨e / 64, by omega⟩ ⟨s % 128, by omega⟩) := by
  pointwise [mixed]
  exact congrArg (· + _) (Finset.sum_congr rfl fun k _ => mul_comm _ _)

/-- The branches' gated sum, projected, on top of the residual. -/
def total (ya yb : FVec Ideal S2x8192x1024 .f32) (g : FVec Ideal S2x8192x2048 .f32) (x : FVec Ideal S2x8192x1024 .f32)
    (w : FVec Ideal S1024x1024 .f32) : FVec Ideal S2x8192x1024 .f32 :=
  addf x
    (Host.dotGeneral dot_S2x8192x1024_S1024x1024_S2x8192x1024_2_0_01_1_n_n none
      (addf
        (mulf (shapeCast S2x8192x1024 (extractStridedSlice S2x8192x1x1024 ![0, 0, 0, 0]
          (shapeCast S2x8192x2x1024 g shapeCasts_S2x8192x2048_S2x8192x2x1024) slices_S2x8192x2x1024_S2x8192x1x1024_0_0_0_0)
          shapeCasts_S2x8192x1x1024_S2x8192x1024) ya)
        (mulf (shapeCast S2x8192x1024 (extractStridedSlice S2x8192x1x1024 ![0, 0, 1, 0]
          (shapeCast S2x8192x2x1024 g shapeCasts_S2x8192x2048_S2x8192x2x1024) slices_S2x8192x2x1024_S2x8192x1x1024_0_0_1_0)
          shapeCasts_S2x8192x1x1024_S2x8192x1024) yb)) w)

theorem total_at (ya yb : FVec Ideal S2x8192x1024 .f32) (g : FVec Ideal S2x8192x2048 .f32) (x : FVec Ideal S2x8192x1024 .f32)
    (w : FVec Ideal S1024x1024 .f32) (i : Fin 2) (s : Fin 8192) (d : Fin 1024) :
    total ya yb g x w (ix3 i s d) = summed (fun d => x (ix3 i s d)) (merged (fun d => ya (ix3 i s d)) (fun d => yb (ix3 i s d))
      (fun d => g (ix3 i s ⟨d, by omega⟩)) (fun d => g (ix3 i s ⟨1024 + d, by omega⟩))) (fun e d => w (ix2 e d)) d := by
  unfold summed merged proj
  pointwise [total]

/-- The norm. -/
def final (p : FVec Ideal S2x8192x1024 .f32) (f : FVec Ideal S1024 .f32) : FVec Ideal S16384x1024 .f32 :=
  shapeCast S16384x1024
    (mulf
      (mulf p (broadcastInDim S2x8192x1024 ![0, 1, 2] bcast_S2x8192x1_S2x8192x1024_0_1_2
        (Host.rsqrt (addf
          (Host.divf (broadcastInDim S2x8192x1 ![0, 1] bcast_S2x8192_S2x8192x1_0_1
              (Host.reduceAdd (mulf p p) (constant S_ .f32 0x00000000#32) reducesTo_S2x8192x1024_S2x8192_d2 h_S_))
            (broadcastInDim S2x8192x1 ![] bcast_S_S2x8192x1 (constant S_ .f32 0x44800000#32)))
          (broadcastInDim S2x8192x1 ![] bcast_S_S2x8192x1 (constant S_ .f32 0x358637BD#32))))))
      (broadcastInDim S2x8192x1024 ![0, 1, 2] bcast_S1x1x1024_S2x8192x1024_0_1_2
        (broadcastInDim S1x1x1024 ![2] bcast_S1024_S1x1x1024_2 f)))
    shapeCasts_S2x8192x1024_S16384x1024

theorem final_at (p : FVec Ideal S2x8192x1024 .f32) (f : FVec Ideal S1024 .f32) (n : Fin 16384) (d : Fin 1024) :
    final p f (ix2 n d) = normed (fun d => p (ix3 ⟨n / 8192, by omega⟩ ⟨n % 8192, by omega⟩ d)) (fun d => f (ix1 d)) d := by
  unfold normed
  pointwise [final]

end Cert.PostReferenceIdeal.Post

end
-- ==== Proof.Post.Reference.lean ====
module

public import proofs.«01_k».proof.Defs
public import proofs.«01_k».proof.Proof.Gen.PostReferenceIdeal
public import proofs.«01_k».proof.Proof.Post.RefValue
public import proofs.«01_k».proof.Proof.Post.Result
public import Idealize.ShloMosaic.Lib.StableHlo.RunHlo
public import Idealize.ShloMosaic.Lib.Tactic
public import Idealize.ShloMosaic.Lib.Claim
public import Idealize.ShloMosaic.Lib.Quiescent

/-! The run of the second reference: it ends with the same rows. -/

@[expose] public section

set_option maxRecDepth 100000

noncomputable section

namespace Cert.PostReferenceIdeal.Post

open Cert.PostReferenceIdeal Cert.Post.Row
open Idealize.ShloMosaic Idealize.ShloMosaic.TcCoe Idealize.ShloMosaic.Tactic Idealize.SL.Sem

/-- The reference ends, its arguments and the counters as they were. -/
theorem quiescent : Cert.quiescent_PostReferenceIdeal := by
  intro m g _
  hlo_run
  · exact fun _ => ⟨trivial, trivial, trivial, trivial, trivial, trivial, trivial, trivial, trivial, trivial, trivial, trivial⟩
  · exact Idealize.ShloMosaic.sem_eq_zero_of_no_sems rfl _

/-- What the reference computes, row by row. -/
theorem out_eq (A GA U VV : FVec Ideal S2x8192x512 .f32) (G : FVec Ideal S2x8192x2048 .f32) (X : FVec Ideal S2x8192x1024 .f32)
    (WA : FVec Ideal S512x1024 .f32) (WS : FVec Ideal S8x128x128 .f32) (BS : FVec Ideal S8x128 .f32) (WG : FVec Ideal S512x1024 .f32)
    (WO : FVec Ideal S1024x1024 .f32) (FG : FVec Ideal S1024 .f32) :
    final (total (branch A GA WA) (branch U (mixed VV WS BS) WG) G X WO) FG = resultArr A GA U VV G X WA WS BS WG WO FG := by
  funext y
  obtain ⟨n, d, rfl⟩ : ∃ (n : Fin 16384) (d : Fin 1024), y = ix2 n d :=
    ⟨y 0, y 1, funext fun a => match a with | ⟨0, _⟩ => rfl | ⟨1, _⟩ => rfl⟩
  rw [final_at]
  simp only [total_at, branch_at, mixed_at]
  rfl

end Cert.PostReferenceIdeal.Post

end
-- ==== Proof.Post.Algebraic.lean ====
module

public import proofs.«01_k».proof.Proof.Post.Value
public import proofs.«01_k».proof.Proof.Post.Reference
public import proofs.«01_k».proof.Proof.Gen.PostIdeal

/-! The second kernel and its reference end with the same array. -/

@[expose] public section

set_option maxRecDepth 100000

noncomputable section

namespace Cert.Post.Row

open Idealize.ShloMosaic Idealize.ShloMosaic.TcCoe Idealize.ShloMosaic.Tactic Idealize.SL.Sem

section Reference

variable (m : (ℓ : Loc Cert.PostReferenceIdeal.nD Cert.PostReferenceIdeal.τ Cert.PostReferenceIdeal.sig) → Buf (Elt Ideal) ℓ)

/-- The reference's attention's rows. -/
def refA (c : Dev Cert.PostReferenceIdeal.nD) : (⟨3, ![2, 8192, 512]⟩ : Shape).Idx → EReal :=
  m ((c.tc : Thread Cert.PostReferenceIdeal.nD Cert.PostReferenceIdeal.τ).loc Cert.PostReferenceIdeal.main_arg0)
/-- The reference's attention gate. -/
def refGa (c : Dev Cert.PostReferenceIdeal.nD) : (⟨3, ![2, 8192, 512]⟩ : Shape).Idx → EReal :=
  m ((c.tc : Thread Cert.PostReferenceIdeal.nD Cert.PostReferenceIdeal.τ).loc Cert.PostReferenceIdeal.main_arg1)
/-- The reference's first half. -/
def refU (c : Dev Cert.PostReferenceIdeal.nD) : (⟨3, ![2, 8192, 512]⟩ : Shape).Idx → EReal :=
  m ((c.tc : Thread Cert.PostReferenceIdeal.nD Cert.PostReferenceIdeal.τ).loc Cert.PostReferenceIdeal.main_arg2)
/-- The reference's second half. -/
def refVv (c : Dev Cert.PostReferenceIdeal.nD) : (⟨3, ![2, 8192, 512]⟩ : Shape).Idx → EReal :=
  m ((c.tc : Thread Cert.PostReferenceIdeal.nD Cert.PostReferenceIdeal.τ).loc Cert.PostReferenceIdeal.main_arg3)
/-- The reference's merge gates. -/
def refG (c : Dev Cert.PostReferenceIdeal.nD) : (⟨3, ![2, 8192, 2048]⟩ : Shape).Idx → EReal :=
  m ((c.tc : Thread Cert.PostReferenceIdeal.nD Cert.PostReferenceIdeal.τ).loc Cert.PostReferenceIdeal.main_arg4)
/-- The reference's residual. -/
def refX (c : Dev Cert.PostReferenceIdeal.nD) : (⟨3, ![2, 8192, 1024]⟩ : Shape).Idx → EReal :=
  m ((c.tc : Thread Cert.PostReferenceIdeal.nD Cert.PostReferenceIdeal.τ).loc Cert.PostReferenceIdeal.main_arg5)
/-- The reference's attention projection. -/
def refWa (c : Dev Cert.PostReferenceIdeal.nD) : (⟨2, ![512, 1024]⟩ : Shape).Idx → EReal :=
  m ((c.tc : Thread Cert.PostReferenceIdeal.nD Cert.PostReferenceIdeal.τ).loc Cert.PostReferenceIdeal.main_arg6)
/-- The reference's spatial weights. -/
def refWs (c : Dev Cert.PostReferenceIdeal.nD) : (⟨3, ![8, 128, 128]⟩ : Shape).Idx → EReal :=
  m ((c.tc : Thread Cert.PostReferenceIdeal.nD Cert.PostReferenceIdeal.τ).loc Cert.PostReferenceIdeal.main_arg7)
/-- The reference's spatial bias. -/
def refBs (c : Dev Cert.PostReferenceIdeal.nD) : (⟨2, ![8, 128]⟩ : Shape).Idx → EReal :=
  m ((c.tc : Thread Cert.PostReferenceIdeal.nD Cert.PostReferenceIdeal.τ).loc Cert.PostReferenceIdeal.main_arg8)
/-- The reference's second projection. -/
def refWg (c : Dev Cert.PostReferenceIdeal.nD) : (⟨2, ![512, 1024]⟩ : Shape).Idx → EReal :=
  m ((c.tc : Thread Cert.PostReferenceIdeal.nD Cert.PostReferenceIdeal.τ).loc Cert.PostReferenceIdeal.main_arg9)
/-- The reference's output projection. -/
def refWo (c : Dev Cert.PostReferenceIdeal.nD) : (⟨2, ![1024, 1024]⟩ : Shape).Idx → EReal :=
  m ((c.tc : Thread Cert.PostReferenceIdeal.nD Cert.PostReferenceIdeal.τ).loc Cert.PostReferenceIdeal.main_arg10)
/-- The reference's gain. -/
def refFg (c : Dev Cert.PostReferenceIdeal.nD) : (⟨1, ![1024]⟩ : Shape).Idx → EReal :=
  m ((c.tc : Thread Cert.PostReferenceIdeal.nD Cert.PostReferenceIdeal.τ).loc Cert.PostReferenceIdeal.main_arg11)

/-- The reference's run ends with the result on its arguments. -/
theorem reference_run (g : Dev Cert.PostReferenceIdeal.nD → PrngReg) :
    θ_run (Cert.PostReferenceIdeal.defs (F := Ideal)) (onTc (τ := Cert.PostReferenceIdeal.τ) (Cert.PostReferenceIdeal.main (F := Ideal)))
      ⟨m, fun _ => 0, g⟩ (fun r => ∀ c : Dev Cert.PostReferenceIdeal.nD,
        r.2.mem ((c.tc : Thread Cert.PostReferenceIdeal.nD Cert.PostReferenceIdeal.τ).loc Cert.PostReferenceIdeal.main_v36)
          = resultArr (refA m c) (refGa m c) (refU m c) (refVv m c) (refG m c) (refX m c) (refWa m c) (refWs m c) (refBs m c) (refWg m c) (refWo m c) (refFg m c)
        ∧ r.2.mem ((c.tc : Thread Cert.PostReferenceIdeal.nD Cert.PostReferenceIdeal.τ).loc Cert.PostReferenceIdeal.main_arg0)
          = m ((c.tc : Thread Cert.PostReferenceIdeal.nD Cert.PostReferenceIdeal.τ).loc Cert.PostReferenceIdeal.main_arg0)
        ∧ r.2.mem ((c.tc : Thread Cert.PostReferenceIdeal.nD Cert.PostReferenceIdeal.τ).loc Cert.PostReferenceIdeal.main_arg1)
          = m ((c.tc : Thread Cert.PostReferenceIdeal.nD Cert.PostReferenceIdeal.τ).loc Cert.PostReferenceIdeal.main_arg1)
        ∧ r.2.mem ((c.tc : Thread Cert.PostReferenceIdeal.nD Cert.PostReferenceIdeal.τ).loc Cert.PostReferenceIdeal.main_arg2)
          = m ((c.tc : Thread Cert.PostReferenceIdeal.nD Cert.PostReferenceIdeal.τ).loc Cert.PostReferenceIdeal.main_arg2)
        ∧ r.2.mem ((c.tc : Thread Cert.PostReferenceIdeal.nD Cert.PostReferenceIdeal.τ).loc Cert.PostReferenceIdeal.main_arg3)
          = m ((c.tc : Thread Cert.PostReferenceIdeal.nD Cert.PostReferenceIdeal.τ).loc Cert.PostReferenceIdeal.main_arg3)
        ∧ r.2.mem ((c.tc : Thread Cert.PostReferenceIdeal.nD Cert.PostReferenceIdeal.τ).loc Cert.PostReferenceIdeal.main_arg4)
          = m ((c.tc : Thread Cert.PostReferenceIdeal.nD Cert.PostReferenceIdeal.τ).loc Cert.PostReferenceIdeal.main_arg4)
        ∧ r.2.mem ((c.tc : Thread Cert.PostReferenceIdeal.nD Cert.PostReferenceIdeal.τ).loc Cert.PostReferenceIdeal.main_arg5)
          = m ((c.tc : Thread Cert.PostReferenceIdeal.nD Cert.PostReferenceIdeal.τ).loc Cert.PostReferenceIdeal.main_arg5)
        ∧ r.2.mem ((c.tc : Thread Cert.PostReferenceIdeal.nD Cert.PostReferenceIdeal.τ).loc Cert.PostReferenceIdeal.main_arg6)
          = m ((c.tc : Thread Cert.PostReferenceIdeal.nD Cert.PostReferenceIdeal.τ).loc Cert.PostReferenceIdeal.main_arg6)
        ∧ r.2.mem ((c.tc : Thread Cert.PostReferenceIdeal.nD Cert.PostReferenceIdeal.τ).loc Cert.PostReferenceIdeal.main_arg7)
          = m ((c.tc : Thread Cert.PostReferenceIdeal.nD Cert.PostReferenceIdeal.τ).loc Cert.PostReferenceIdeal.main_arg7)
        ∧ r.2.mem ((c.tc : Thread Cert.PostReferenceIdeal.nD Cert.PostReferenceIdeal.τ).loc Cert.PostReferenceIdeal.main_arg8)
          = m ((c.tc : Thread Cert.PostReferenceIdeal.nD Cert.PostReferenceIdeal.τ).loc Cert.PostReferenceIdeal.main_arg8)
        ∧ r.2.mem ((c.tc : Thread Cert.PostReferenceIdeal.nD Cert.PostReferenceIdeal.τ).loc Cert.PostReferenceIdeal.main_arg9)
          = m ((c.tc : Thread Cert.PostReferenceIdeal.nD Cert.PostReferenceIdeal.τ).loc Cert.PostReferenceIdeal.main_arg9)
        ∧ r.2.mem ((c.tc : Thread Cert.PostReferenceIdeal.nD Cert.PostReferenceIdeal.τ).loc Cert.PostReferenceIdeal.main_arg10)
          = m ((c.tc : Thread Cert.PostReferenceIdeal.nD Cert.PostReferenceIdeal.τ).loc Cert.PostReferenceIdeal.main_arg10)
        ∧ r.2.mem ((c.tc : Thread Cert.PostReferenceIdeal.nD Cert.PostReferenceIdeal.τ).loc Cert.PostReferenceIdeal.main_arg11)
          = m ((c.tc : Thread Cert.PostReferenceIdeal.nD Cert.PostReferenceIdeal.τ).loc Cert.PostReferenceIdeal.main_arg11)) := by
  hlo_run
  exact Eq.trans rfl (Cert.PostReferenceIdeal.Post.out_eq (refA m c) (refGa m c) (refU m c) (refVv m c) (refG m c) (refX m c) (refWa m c) (refWs m c) (refBs m c) (refWg m c) (refWo m c) (refFg m c))

end Reference

/-- Kernel and reference end with the same array, whatever the arguments. -/
theorem algebraic : Cert.algebraic_PostIdeal_PostReferenceIdeal := by
  intro m g m' g' _ hagree
  refine ⟨fun c => Cert.PostIdeal.Post.out m c, ?_, ?_⟩
  · exact (θ_run _ _ _).mono (fun r h c => ⟨(h c).1.trans (Cert.PostIdeal.Post.out_arr m c), (h c).2⟩)
      (Cert.PostIdeal.Post.run_blocks m g)
  · refine (θ_run _ _ _).mono (fun r h c => ⟨(h c).1.trans ?_, (h c).2⟩) (reference_run m' g')
    obtain ⟨h0, h1, h2, h3, h4, h5, h6, h7, h8, h9, h10, h11⟩ := hagree c
    have e0 : refA m' c = m (c, Proc.devRef .tc Cert.PostIdeal.main_arg0) := h0
    have e1 : refGa m' c = m (c, Proc.devRef .tc Cert.PostIdeal.main_arg1) := h1
    have e2 : refU m' c = m (c, Proc.devRef .tc Cert.PostIdeal.main_arg2) := h2
    have e3 : refVv m' c = m (c, Proc.devRef .tc Cert.PostIdeal.main_arg3) := h3
    have e4 : refG m' c = m (c, Proc.devRef .tc Cert.PostIdeal.main_arg4) := h4
    have e5 : refX m' c = m (c, Proc.devRef .tc Cert.PostIdeal.main_arg5) := h5
    have e6 : refWa m' c = m (c, Proc.devRef .tc Cert.PostIdeal.main_arg6) := h6
    have e7 : refWs m' c = m (c, Proc.devRef .tc Cert.PostIdeal.main_arg7) := h7
    have e8 : refBs m' c = m (c, Proc.devRef .tc Cert.PostIdeal.main_arg8) := h8
    have e9 : refWg m' c = m (c, Proc.devRef .tc Cert.PostIdeal.main_arg9) := h9
    have e10 : refWo m' c = m (c, Proc.devRef .tc Cert.PostIdeal.main_arg10) := h10
    have e11 : refFg m' c = m (c, Proc.devRef .tc Cert.PostIdeal.main_arg11) := h11
    rw [e0, e1, e2, e3, e4, e5, e6, e7, e8, e9, e10, e11]
    rfl

end Cert.Post.Row

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameBits
public import proofs.«01_k».proof.Proof.Algebraic
public import proofs.«01_k».proof.Proof.Gen.Post
public import proofs.«01_k».proof.Proof.Gen.PostIdeal
public import proofs.«01_k».proof.Proof.Gen.PostReferenceIdeal
public import proofs.«01_k».proof.Proof.Post.Frames
public import proofs.«01_k».proof.Proof.Post.Algebraic
public import proofs.«01_k».proof.Proof.Reference

/-! The certificate: every claim, each from its own module. -/

@[expose] public section

noncomputable section

namespace Cert.Proof

open Idealize.ShloMosaic

theorem claim : Cert.Claim :=
  ⟨inferInstance, inferInstance, inferInstance, inferInstance, inferInstance, inferInstance, Cert.Pre_finite.Attn.facts,
    Cert.Kernel.Attn.quiescent,
    fun m g _ => Cert.KernelIdeal.Attn.quiescent m g, fun m g _ => Cert.KernelIdeal.Attn.quiescent m g,
    Cert.ReferenceIdeal.Attn.quiescent, fun m g _ => Cert.ReferenceIdeal.Attn.quiescent m g trivial,
    Cert.PostFrames.compiled, Cert.PostFrames.ideal, Cert.PostReferenceIdeal.Post.quiescent,
    IdealRules.named_const.statement Cert.KernelIdeal.κ "neg_inf" .f32 0xF149F2CA#32 ⊥ rfl, Cert.Attn.algebraic,
    trivial, Cert.Post.Row.algebraic⟩

end Cert.Proof

end
